-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x256x512 .f32) (main_arg1 : FVec F S512x256 .f32) (main_arg2 : FVec F S2x1024x4x64 .f32) (main_arg3 : FVec F S2x1024x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x4x64 .f32 := Host.absf main_arg2
  let main_cst_2 : FVec F S_ .f32 := constant S_ .f32 0x7F800000#32
  let main_v10 : FVec F S2x1024x4x64 .f32 := broadcastInDim S2x1024x4x64 ![] bcast_S_S2x1024x4x64 main_cst_2
  let main_v11 : IVec S2x1024x4x64 1 := cmpf .olt main_v9 main_v10
  let main_c_3 : IVec S_ 1 := constantI S_ 1 1#1
  let main_v12 : IVec S_ 1 := (fun x v => Host.reduce IntOp.andi x v reducesTo_S2x1024x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x256x384 : Shape := ⟨3, ![2, 256, 384]⟩
abbrev S2x2x256x384 : Shape := ⟨4, ![2, 2, 256, 384]⟩
abbrev S2x4 : Shape := ⟨2, ![2, 4]⟩
abbrev S256x256 : Shape := ⟨2, ![256, 256]⟩
abbrev S1x256x512 : Shape := ⟨3, ![1, 256, 512]⟩
abbrev S256x64 : Shape := ⟨2, ![256, 64]⟩
abbrev S1x256x1x64 : Shape := ⟨4, ![1, 256, 1, 64]⟩
abbrev S64x256 : Shape := ⟨2, ![64, 256]⟩
abbrev S256 : Shape := ⟨1, ![256]⟩
abbrev S256x1 : Shape := ⟨2, ![256, 1]⟩
abbrev S1x256x64 : Shape := ⟨3, ![1, 256, 64]⟩
abbrev S256x32 : Shape := ⟨2, ![256, 32]⟩
abbrev S1x256x32 : Shape := ⟨3, ![1, 256, 32]⟩
abbrev S_ : Shape := ⟨0, ![]⟩
abbrev S1x1 : Shape := ⟨2, ![1, 1]⟩
abbrev S1x2x256x384 : Shape := ⟨4, ![1, 2, 256, 384]⟩
abbrev S1x128x384 : Shape := ⟨3, ![1, 128, 384]⟩
abbrev S128x384 : Shape := ⟨2, ![128, 384]⟩
abbrev S1x1x128x384 : Shape := ⟨4, ![1, 1, 128, 384]⟩
abbrev S1x256x1 : Shape := ⟨3, ![1, 256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S2x256x384, .f32⟩
  | .local _ .vmem, ⟨7, _⟩ => ⟨S2x2x256x384, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_167 : BitVec 32 := 1#32
  let v254 : BitVec 32 := Scalar.muli v3 c1_i32_167
  let v255 : BitVec 32 := Scalar.addi c0_i32_168 v254
  v255.toNat
def k0_dev2 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_170 : BitVec 32 := 1#32
  let v256 : BitVec 32 := Scalar.muli v4 c1_i32_170
  let v257 : BitVec 32 := Scalar.addi c0_i32_171 v256
  v257.toNat
def k0_dev3 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_179 : BitVec 32 := 1#32
  let v258 : BitVec 32 := Scalar.muli v3 c1_i32_179
  let v259 : BitVec 32 := Scalar.addi c0_i32_180 v258
  v259.toNat
def k0_dev4 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_195 : BitVec 32 := 1#32
  let v270 : BitVec 32 := Scalar.muli v3 c1_i32_195
  let v271 : BitVec 32 := Scalar.addi c0_i32_196 v270
  v271.toNat
def k0_dev5 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_210 : BitVec 32 := 1#32
  let v282 : BitVec 32 := Scalar.muli v3 c1_i32_210
  let v283 : BitVec 32 := Scalar.addi c0_i32_211 v282
  v283.toNat
def k0_dev6 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_226 : BitVec 32 := 1#32
  let v294 : BitVec 32 := Scalar.muli v3 c1_i32_226
  let v295 : BitVec 32 := Scalar.addi c0_i32_227 v294
  v295.toNat
def k0_dev7 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_283 : BitVec 32 := 1#32
  let v332 : BitVec 32 := Scalar.muli v4 c1_i32_283
  let v333 : BitVec 32 := Scalar.addi c0_i32_284 v332
  v333.toNat
def k0_dev8 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_340 : BitVec 32 := 1#32
  let v370 : BitVec 32 := Scalar.muli v4 c1_i32_340
  let v371 : BitVec 32 := Scalar.addi c0_i32_341 v370
  v371.toNat
def k0_dev9 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_397 : BitVec 32 := 1#32
  let v408 : BitVec 32 := Scalar.muli v4 c1_i32_397
  let v409 : BitVec 32 := Scalar.addi c0_i32_398 v408
  v409.toNat
def k0_dev10 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_454 : BitVec 32 := 1#32
  let v446 : BitVec 32 := Scalar.muli v4 c1_i32_454
  let v447 : BitVec 32 := Scalar.addi c0_i32_455 v446
  v447.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x1024x4x64 : Shape := ⟨4, ![2, 1024, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x4x256x1024 : Shape := ⟨4, ![2, 4, 256, 1024]⟩
abbrev S1x1x256x1024 : Shape := ⟨4, ![1, 1, 256, 1024]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x1024x4x64, .f32⟩
  | .hbm, ⟨3, _⟩ => ⟨S2x1024x4x64, .f32⟩
  | .hbm, ⟨4, _⟩ => ⟨S256x512, .f32⟩
  | .hbm, ⟨5, _⟩ => ⟨S2x256x256, .f32⟩
  | .hbm, ⟨6, _⟩ => ⟨S2x256x4x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S256x1024, .i32⟩
  | .hbm, ⟨48, _⟩ => ⟨S256x1024, .i32⟩
  | .hbm, ⟨49, _⟩ => ⟨S256x1024, .i1⟩
  | .hbm, ⟨50, _⟩ => ⟨S2x4x256x1024, .f32⟩
  | .hbm, ⟨51, _⟩ => ⟨S_, .f32⟩
  | .hbm, ⟨52, _⟩ => ⟨S2x4x256x1024, .f32⟩
  | .hbm, ⟨53, _⟩ => ⟨S2x4x256x1024, .f32⟩
  | .hbm, ⟨54, _⟩ => ⟨S1x1x256x1024, .i1⟩
  | .hbm, ⟨55, _⟩ => ⟨S_, .f32⟩
  | .hbm, ⟨56, _⟩ => ⟨S_, .f32⟩
  | .hbm, ⟨57, _⟩ => ⟨S2x4x256x1024, .i1⟩
  | .hbm, ⟨58, _⟩ => ⟨S2x4x256x1024, .f32⟩
  | .hbm, ⟨59, _⟩ => ⟨S2x4x256x1024, .f32⟩
  | .hbm, ⟨60, _⟩ => ⟨S_, .f32⟩
  | .hbm, ⟨61, _⟩ => ⟨S2x4x256, .f32⟩
  | .hbm, ⟨62, _⟩ => ⟨S2x4x256x1, .f32⟩
  | .hbm, ⟨63, _⟩ => ⟨S2x4x256x1024, .f32⟩
  | .hbm, ⟨64, _⟩ => ⟨S2x4x256x1024, .f32⟩
  | .hbm, ⟨65, _⟩ => ⟨S2x4x256x1024, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x4x256, .f32⟩
  | .hbm, ⟨71, _⟩ => ⟨S2x4x256x1, .f32⟩
  | .hbm, ⟨72, _⟩ => ⟨S_, .f32⟩
  | .hbm, ⟨73, _⟩ => ⟨S_, .f32⟩
  | .hbm, ⟨74, _⟩ => ⟨S2x4x256x1, .i1⟩
  | .hbm, ⟨75, _⟩ => ⟨S2x4x256x1, .f32⟩
  | .hbm, ⟨76, _⟩ => ⟨S2x4x256x1, .f32⟩
  | .hbm, ⟨77, _⟩ => ⟨S2x4x256x1024, .f32⟩
  | .hbm, ⟨78, _⟩ => ⟨S2x4x256x1024, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x4x256x1024, .i1⟩
  | .hbm, ⟨83, _⟩ => ⟨S2x4x256x1024, .f32⟩
  | .hbm, ⟨84, _⟩ => ⟨S2x4x256x1024, .f32⟩
  | .hbm, ⟨85, _⟩ => ⟨S2x4x64x256, .f32⟩
  | .hbm, ⟨86, _⟩ => ⟨S2x256x4x64, .f32⟩
  | .hbm, ⟨87, _⟩ => ⟨S2x256x256, .f32⟩
  | .hbm, ⟨88, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.RunKernelIdeal.Ring.lean ====
/-
The exchange of `KernelIdeal` as a protocol: the partner maps, the chunks of the accumulator and of the landing
buffers, the semaphore cells, what every cell's one round pays, what each device owes, and the order of the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic
public import Mathlib.Algebra.BigOperators.Intervals

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

/-! ## The ghost state: the staging pipeline's copy beside the exchange's (two duty names per cell) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The partners -/

set_option backward.proofsInPublic true in
/-- The device exchanged with in round `r`: `c xor 1` in round 0, `c xor 3` in round 1. -/
def peer (r : Fin 2) (c : Dev nD) : Dev nD :=
  ⟨(Nat.xor c.val (2 * r.val + 1)) % 4, Nat.mod_lt _ (by decide)⟩

/-- Each partner map is its own inverse. -/
theorem peer_peer (r : Fin 2) (c : Dev nD) : peer r (peer r c) = c := by revert r c; decide
/-- The two rounds' partners differ. -/
theorem peer_ne (c : Dev nD) : peer 0 c ≠ peer 1 c := by revert c; decide

/-- The partner map as a bijection of the devices. -/
def swap (r : Fin 2) : Dev nD ≃ Dev nD := ⟨peer r, peer r, peer_peer r, peer_peer r⟩

/-! The device numbers the kernel computes: both signals and the eight transfers name the two partners. -/

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 0 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 0 c := by revert c; decide
theorem dev6_eq (c : Dev nD) : (⟨k0_dev6 c, k0_dev6_lt c⟩ : Dev nD) = peer 0 c := by revert c; decide
theorem dev7_eq (c : Dev nD) : (⟨k0_dev7 c, k0_dev7_lt c⟩ : Dev nD) = peer 1 c := by revert c; decide
theorem dev8_eq (c : Dev nD) : (⟨k0_dev8 c, k0_dev8_lt c⟩ : Dev nD) = peer 1 c := by revert c; decide
theorem dev9_eq (c : Dev nD) : (⟨k0_dev9 c, k0_dev9_lt c⟩ : Dev nD) = peer 1 c := by revert c; decide
theorem dev10_eq (c : Dev nD) : (⟨k0_dev10 c, k0_dev10_lt c⟩ : Dev nD) = peer 1 c := by revert c; decide

/-! ## The chunks: rows `128·(k mod 2) …` of batch `k / 2` -/

abbrev coff (k : Fin 4) : Fin 3 → Nat := ![k.val / 2, 128 * (k.val % 2), 0]
theorem inbA (k : Fin 4) : ∀ a, coff k a + S1x128x384.size a ≤ S2x256x384.size a := by revert k; decide
theorem inbRow (r : Fin 2) : ∀ a, (![r.val, 0, 0, 0] : Fin 4 → Nat) a + S1x2x256x384.size a ≤ S2x2x256x384.size a := by
  revert r; decide
theorem inbR (r : Fin 2) (k : Fin 4) :
    ∀ a, (![r.val, k.val / 2, 128 * (k.val % 2), 0] : Fin 4 → Nat) a + S1x1x128x384.size a ≤ S2x2x256x384.size a := by
  revert r k; decide

/-- The accumulator, and both rounds' landing buffers. -/
abbrev accM : Memref sig .tc .vmem S2x256x384 .f32 := Memref.whole cc0_scratch0
abbrev rcvM : Memref sig .tc .vmem S2x2x256x384 .f32 := Memref.whole cc0_scratch1

abbrev accRect (k : Fin 4) : Rect S2x256x384 := Rect.unit (s := S2x256x384) (coff k) S1x128x384.size (inbA k)
abbrev rcvRect (r : Fin 2) (k : Fin 4) : Rect S2x2x256x384 :=
  Rect.unit (s := S2x2x256x384) ![r.val, k.val / 2, 128 * (k.val % 2), 0] S1x1x128x384.size (inbR r k)

/-- Chunk `k` of the accumulator, the source of a transfer. -/
abbrev accC (k : Fin 4) : Memref sig .tc .vmem S128x384 .f32 :=
  (accM.slice (accRect k) (fun _ => rfl)).squeeze S128x384 squeezes_S1x128x384_S128x384
/-- Chunk `k` of round `r`'s landing buffer, the target of a transfer. -/
abbrev rcvC (r : Fin 2) (k : Fin 4) : Memref sig .tc .vmem S128x384 .f32 :=
  ((((rcvM.slice (Rect.unit (s := S2x2x256x384) ![r.val, 0, 0, 0] S1x2x256x384.size (inbRow r)) (fun _ => rfl)).squeeze
      S2x256x384 squeezes_S1x2x256x384_S2x256x384).slice (accRect k) (fun _ => rfl)).squeeze S128x384
      squeezes_S1x128x384_S128x384)

/-! ## The cells -/

theorem inbS (r : Fin 2) (k : Fin 4) : ∀ a, (![r.val, k.val] : Fin 2 → Nat) a + S1x1.size a ≤ S2x4.size a := by
  revert r k; decide

/-- Entry `(r, k)` of a table of semaphores. -/
abbrev semAt (a : DmaSems sig S2x4) (r : Fin 2) (k : Fin 4) : DmaSem sig :=
  ((a.slice (Rect.unit (s := S2x4) ![r.val, k.val] S1x1.size (inbS r k))).squeeze S_ squeezes_S1x1_S_).sem

abbrev barS : Sem sig := (SemArray.scalar (sig.barrier 0 rfl) : Sems sig S_).sem
abbrev sendS (r : Fin 2) (k : Fin 4) : DmaSem sig := semAt cc0_scratch2 r k
abbrev recvS (r : Fin 2) (k : Fin 4) : DmaSem sig := semAt cc0_scratch3 r k

theorem sendS_val (r : Fin 2) (k : Fin 4) : (sendS r k).val = 6 + (4 * r.val + k.val) := by revert r k; decide
theorem recvS_val (r : Fin 2) (k : Fin 4) : (recvS r k).val = 14 + (4 * r.val + k.val) := by revert r k; decide

abbrev barCell (c : Dev nD) : GSem nD τ sig := ((c : Thread nD τ), .reg barS)
abbrev sendCell (c : Dev nD) (r : Fin 2) (k : Fin 4) : GSem nD τ sig := ((c : Thread nD τ), .dma (sendS r k))
abbrev recvCell (c : Dev nD) (r : Fin 2) (k : Fin 4) : GSem nD τ sig := ((c : Thread nD τ), .dma (recvS r k))

/-- The kernel's own sixteen semaphores: (send or receive, round, chunk). -/
abbrev Slot : Type := Fin 2 × Fin 2 × Fin 4
abbrev osem (x : Slot) : SemLoc sig := match x with
  | (0, r, k) => .dma (sendS r k)
  | (1, r, k) => .dma (recvS r k)
/-- All seventeen cells of a device: the barrier's and the own ones. -/
abbrev csem (x : Option Slot) : SemLoc sig := match x with
  | none => .reg barS
  | some x => osem x
abbrev kcell (x : Dev nD × Option Slot) : GSem nD τ sig := ((x.1 : Thread nD τ), csem x.2)

/-- The credit of one chunk's transfer. -/
abbrev N : ℕ := (accC 0).view.dmaCredit
theorem N_pos : 0 < N := View.dmaCredit_pos _ (by decide)

/-! ## Contents -/

abbrev AccBuf (F : FTy → Type) : Type := S2x256x384.Idx → Elt F (EltTy.f32)
abbrev RcvBuf (F : FTy → Type) : Type := S2x2x256x384.Idx → Elt F (EltTy.f32)

variable (A : Dev nD → AccBuf F)

/-- The accumulator of device `c` after one round: its own and its partner's, element by element. -/
def acc1 (c : Dev nD) : AccBuf F := fun i => FloatOps.addf (A c i) (A (peer 0 c) i)
/-- The accumulator when round `r` begins. -/
def accR (r : Fin 2) (c : Dev nD) : AccBuf F := match r with
  | 0 => A c
  | 1 => acc1 A c
/-- The accumulator when round `r` is done. -/
def accS (r : Fin 2) (c : Dev nD) : AccBuf F := fun i => FloatOps.addf (accR A r c i) (accR A r (peer r c) i)

theorem accS_zero (c : Dev nD) : accS A 0 c = accR A 1 c := rfl

/-- What lands on device `c`: in round `r`'s buffer the partner's accumulator of that round. -/
def landed (c : Dev nD) : RcvBuf F := fun i => accR A (i 0) (peer (i 0) c) (ix3 (i 1) (i 2) (i 3))

/-- Chunk `k` of device `c`'s accumulator at contents `f`. -/
def accPts (c : Dev nD) (k : Fin 4) (f : AccBuf F) : sProp 𝕄 :=
  (accC k).view.loc (c : Thread nD τ) ↦[(accC k).view.set]{fullShare} f
/-- Chunk `k` of round `r`'s landing buffer on device `c` at contents `f`. -/
def rcvPts (c : Dev nD) (r : Fin 2) (k : Fin 4) (f : RcvBuf F) : sProp 𝕄 :=
  (rcvC r k).view.loc (c : Thread nD τ) ↦[(rcvC r k).view.set]{fullShare} f

instance accPts_storable (c : Dev nD) (k) (f) : BI.Storable (upEmb : UEmb _ 𝕄) (accPts (F := F) c k f) := by
  unfold accPts; infer_instance
instance rcvPts_storable (c : Dev nD) (r k) (f) : BI.Storable (upEmb : UEmb _ 𝕄) (rcvPts (F := F) c r k f) := by
  unfold rcvPts; infer_instance

/-! ## The schedule -/

/-- The partner's landing buffer of round `r`, its four chunks at any contents, and that the partner's receive
    cells of that round are open: what the entry handshake hands over. -/
def barPay (r : Fin 2) (c : Dev nD) : sProp 𝕄 :=
  bigSep Finset.univ fun k : Fin 4 => iprop((∃ f, rcvPts c r k f) ∗ reached ER (recvCell c r k) 0)

def duty (r : Fin 2) : Bool := match r with | 0 => false | 1 => true

/-- The payload of a transfer semaphore, by its number: a send cell gives the chunk sent back, a receive cell the
    chunk landed. -/
def dmaPay (c : Dev nD) (n : ℕ) : sProp 𝕄 :=
  if n < 14 then accPts c (Fin.ofNat 4 (n - 6)) (accR A (Fin.ofNat 2 ((n - 6) / 4)) c)
  else rcvPts c (Fin.ofNat 2 ((n - 14) / 4)) (Fin.ofNat 4 (n - 14)) (landed A c)

/-- One round: a barrier cell has a unit from each partner, a transfer cell the credit of its one chunk. -/
def sched : Rounds.Schedule (GSem nD τ sig) Bool 𝕄 where
  duties g r := if r = 0 ∧ g.1.2 = .tc then (match g.2 with
    | .reg _ => Finset.univ
    | .dma _ => {false}) else ∅
  unitless _ := False
  amount g _ _ := match g.2 with
    | .reg _ => 1
    | .dma _ => N
  payload g _ d := match g.2 with
    | .reg _ => if d then barPay 1 (peer 1 g.1.1) else barPay 0 (peer 0 g.1.1)
    | .dma q => dmaPay A g.1.1 q.val
  amount_pos g _ _ _ := by
    rcases g with ⟨t, _ | _⟩
    · exact Nat.one_pos
    · exact N_pos

instance sched_payload_storable (g : GSem nD τ sig) (r : ℕ) (d : Bool) :
    BI.Storable (upEmb : UEmb _ 𝕄) ((sched (F := F) A).payload g r d) := by
  rcases g with ⟨t, _ | q⟩
  · show BI.Storable upEmb (if d then barPay 1 (peer 1 t.1) else barPay 0 (peer 0 t.1))
    unfold barPay
    split <;> infer_instance
  · show BI.Storable upEmb (dmaPay A t.1 q.val)
    unfold dmaPay
    split <;> infer_instance

section Sched
variable (c : Dev nD) (r : Fin 2) (k : Fin 4)

theorem duties_bar : (sched A).duties (barCell c) 0 = Finset.univ := rfl
theorem duties_send : (sched A).duties (sendCell c r k) 0 = {false} := rfl
theorem duties_recv : (sched A).duties (recvCell c r k) 0 = {false} := rfl
/-- No cell has a second round. -/
theorem duties_later (g : GSem nD τ sig) : ∀ r, 1 ≤ r → (sched A).duties g r = ∅ :=
  fun r hr => if_neg fun h => by omega

theorem amount_bar (d : Bool) : (sched A).amount (barCell c) 0 d = 1 := rfl
theorem amount_send (d : Bool) : (sched A).amount (sendCell c r k) 0 d = N := rfl
theorem amount_recv (d : Bool) : (sched A).amount (recvCell c r k) 0 d = N := rfl

theorem expect_bar : (sched A).expect (barCell c) 0 = 2 := by
  unfold Schedule.expect Schedule.amountOf
  rw [duties_bar, Finset.sum_congr rfl fun d _ => amount_bar A c d, Finset.sum_const, Finset.card_univ, Fintype.card_bool,
    smul_eq_mul]
theorem expect_send : (sched A).expect (sendCell c r k) 0 = N := by
  unfold Schedule.expect Schedule.amountOf; rw [duties_send, Finset.sum_singleton, amount_send]
theorem expect_recv : (sched A).expect (recvCell c r k) 0 = N := by
  unfold Schedule.expect Schedule.amountOf; rw [duties_recv, Finset.sum_singleton, amount_recv]

/-- The signal in round `r`'s direction hands over the receiver's partner's landing buffer. -/
theorem payload_bar : (sched A).payload (barCell c) 0 (duty r) = barPay (F := F) r (peer r c) := by
  revert r; intro r
  match r with
  | 0 => rfl
  | 1 => rfl
theorem payload_send (d : Bool) : (sched A).payload (sendCell c r k) 0 d = accPts c k (accR A r c) := by
  show dmaPay A c (sendS r k).val = _
  unfold dmaPay
  rw [sendS_val, if_pos (by omega),
    show Fin.ofNat 4 (6 + (4 * r.val + k.val) - 6) = k from Fin.ext (by simp only [Fin.val_ofNat]; omega),
    show Fin.ofNat 2 ((6 + (4 * r.val + k.val) - 6) / 4) = r from Fin.ext (by simp only [Fin.val_ofNat]; omega)]
theorem payload_recv (d : Bool) : (sched A).payload (recvCell c r k) 0 d = rcvPts c r k (landed A c) := by
  show dmaPay A c (recvS r k).val = _
  unfold dmaPay
  rw [recvS_val, if_neg (by omega),
    show Fin.ofNat 4 (14 + (4 * r.val + k.val) - 14) = k from Fin.ext (by simp only [Fin.val_ofNat]; omega),
    show Fin.ofNat 2 ((14 + (4 * r.val + k.val) - 14) / 4) = r from Fin.ext (by simp only [Fin.val_ofNat]; omega)]

/-- The barrier wait collects both partners' landing buffers. -/
theorem rest_bar : bigSep ((sched A).duties (barCell c) 0 \ ∅) (fun d => (sched A).payload (barCell c) 0 d)
    = iprop(barPay (F := F) 0 (peer 0 c) ∗ barPay 1 (peer 1 c)) := by
  rw [Finset.sdiff_empty, duties_bar, bigSep_univ_eq_bigSepL [false, true] (by decide) (by decide), bigSepL_cons_cons,
    bigSepL_singleton]
  rfl
theorem rest_send : bigSep ((sched A).duties (sendCell c r k) 0 \ ∅) (fun d => (sched A).payload (sendCell c r k) 0 d)
    = accPts c k (accR A r c) := by
  rw [Finset.sdiff_empty, duties_send, bigSep_singleton, payload_send]
theorem rest_recv : bigSep ((sched A).duties (recvCell c r k) 0 \ ∅) (fun d => (sched A).payload (recvCell c r k) 0 d)
    = rcvPts c r k (landed A c) := by
  rw [Finset.sdiff_empty, duties_recv, bigSep_singleton, payload_recv]

end Sched

/-! ## What each device owes; the order of the waits -/

/-- The `n`-th transfer is round `n / 4`'s of chunk `n mod 4`. -/
abbrev rOf (n : ℕ) : Fin 2 := Fin.ofNat 2 (n / 4)
abbrev kOf (n : ℕ) : Fin 4 := Fin.ofNat 4 n

/-- The credit the transfer of chunk `k` in round `r` pays: on the partner's receive cell. -/
abbrev due (c : Dev nD) (r : Fin 2) (k : Fin 4) : CellTallies nD τ sig Unit := tallyAt (recvCell (peer r c) r k) () N

/-- What device `c` still owes when its first `n` transfers are issued. -/
def owed (c : Dev nD) (n : ℕ) : CellTallies nD τ sig Unit := ∑ j ∈ Finset.Ico n 8, due c (rOf j) (kOf j)

theorem owed_step (c : Dev nD) {n : ℕ} (h : n < 8) : owed c n = owed c (n + 1) + due c (rOf n) (kOf n) := by
  unfold owed; rw [Finset.sum_eq_sum_Ico_succ_bot h, add_comm]
theorem owed_done (c : Dev nD) : owed c 8 = 0 := by unfold owed; rw [Finset.Ico_self, Finset.sum_empty]

/-- What device `c` owes at launch, and after its first signal. -/
def O₁ (c : Dev nD) : CellTallies nD τ sig Unit := owed c 0 + tallyAt (barCell (peer 1 c)) () 1
def O₀ (c : Dev nD) : CellTallies nD τ sig Unit := O₁ c + tallyAt (barCell (peer 0 c)) () 1

def L (g : GSem nD τ sig) : Finset Unit := if g.1.2 = .tc then {()} else ∅
/-- The height of a cell: staging and send cells 0, barrier cells 1, round 0's receive cells 2, round 1's 3. -/
def lv (g : GSem nD τ sig) (_ : Unit) : ℕ := match g.2 with
  | .reg _ => 1
  | .dma q => if q.val < 14 then 0 else if q.val < 18 then 2 else 3

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (r : Fin 2) (k : Fin 4) : lv (recvCell c r k) () = 2 + r.val := by revert c r k; decide
theorem lv_send (c : Dev nD) (r : Fin 2) (k : Fin 4) : lv (sendCell c r k) () = 0 := by revert c r k; decide

/-- A cell something is still owed to is the receive cell of a transfer not yet issued. -/
theorem owed_pos {c : Dev nD} {n : ℕ} {g : GSem nD τ sig} {u : Unit} (h : 0 < owed c n g u) :
    ∃ j, n ≤ j ∧ j < 8 ∧ g = recvCell (peer (rOf j) c) (rOf j) (kOf j) := by
  unfold owed at h
  rw [Finset.sum_apply, Finsupp.finset_sum_apply] at h
  obtain ⟨j, hj, h'⟩ := Finset.exists_ne_zero_of_sum_ne_zero (Nat.pos_iff_ne_zero.mp h)
  refine ⟨j, (Finset.mem_Ico.mp hj).1, (Finset.mem_Ico.mp hj).2, ?_⟩
  by_contra hn
  exact h' (by rw [tallyAt_apply, if_neg (fun h'' => hn h''.1)])

theorem O₀_pos {c : Dev nD} {g : GSem nD τ sig} {u : Unit} (h : 0 < O₀ c g u) :
    (∃ j, 0 ≤ j ∧ j < 8 ∧ g = recvCell (peer (rOf j) c) (rOf j) (kOf j)) ∨ g = barCell (peer 1 c) ∨ g = barCell (peer 0 c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  exact hn.1 (owed_pos h)

/-- A wait on a cell below every receive cell still owed to is allowed. -/
theorem mayWait_owed (c : Dev nD) (sm : SemLoc sig) (n : ℕ)
    (h : ∀ j, n ≤ j → j < 8 → lv ((c : Thread nD τ), sm) () < 2 + (rOf j).val) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by obtain ⟨j, -, -, rfl⟩ := owed_pos hg; exact Finset.mem_singleton_self _)
    (fun p hp => by rw [Finset.mem_singleton.mp hp])
    (fun g u hg => by obtain ⟨j, h1, h2, rfl⟩ := owed_pos hg; rw [lv_recv]; exact h j h1 h2)

/-- The staging waits are allowed at launch and at the end. -/
theorem mayWait_stage (c : Dev nD) (q : DmaSem sig) (hq : q.val < 14) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases O₀_pos hg with ⟨j, -, -, rfl⟩ | rfl | rfl <;> exact Finset.mem_singleton_self _)
      (fun p hp => by rw [Finset.mem_singleton.mp hp]; dsimp only [lv]; rw [if_pos hq])
      (fun g u hg => by
        rcases O₀_pos hg with ⟨j, -, -, rfl⟩ | rfl | rfl
        · rw [lv_recv]; omega
        · exact Nat.one_pos
        · exact Nat.one_pos)
  · rw [MayWait_zero]; iintro -; iempintro

end Cert.KernelIdeal.Run

end
-- ==== Proof.RunKernelIdeal.Chunks.lean ====
/-
The chunks of the accumulator and of the landing buffers, by coordinates: where their elements lie, how the buffers
split into them and join again, what a landed transfer and an accumulation leave in them.
-/
module

public import proofs.«01_k».proof.Proof.RunKernelIdeal.Ring

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4 eq_ix2 eq_ix3 eq_ix4)

variable {F : FTy → Type} [FloatOps F]

local notation "𝕄" => MT nD τ sig Unit (Elt F) ℕ UU ℕ

/-! ## Where a chunk's elements lie -/

/-- Element `(a, b)` of chunk `k`, by its place in the accumulator. -/
def chunkIx (k : Fin 4) (j : S128x384.Idx) : S2x256x384.Idx :=
  ix3 (⟨k.val / 2, by omega⟩ : Fin 2) (⟨128 * (k.val % 2) + (j 0).val, by have := (j 0).isLt; change (j 0).val < 128 at this; omega⟩ : Fin 256)
    (⟨(j 1).val, (j 1).isLt⟩ : Fin 384)
/-- Element `i` of the accumulator's shape in round `r`'s landing buffer. -/
def rowIx (r : Fin 2) (i : S2x256x384.Idx) : S2x2x256x384.Idx :=
  ix4 r (⟨(i 0).val, (i 0).isLt⟩ : Fin 2) (⟨(i 1).val, (i 1).isLt⟩ : Fin 256) (⟨(i 2).val, (i 2).isLt⟩ : Fin 384)

theorem ext3 {i j : S2x256x384.Idx} (h0 : (i 0).val = (j 0).val) (h1 : (i 1).val = (j 1).val) (h2 : (i 2).val = (j 2).val) : i = j := by
  funext a; match a with | ⟨0, _⟩ => exact Fin.ext h0 | ⟨1, _⟩ => exact Fin.ext h1 | ⟨2, _⟩ => exact Fin.ext h2
theorem ext4 {i j : S2x2x256x384.Idx} (h0 : (i 0).val = (j 0).val) (h1 : (i 1).val = (j 1).val) (h2 : (i 2).val = (j 2).val)
    (h3 : (i 3).val = (j 3).val) : i = j := by
  funext a
  match a with
  | ⟨0, _⟩ => exact Fin.ext h0
  | ⟨1, _⟩ => exact Fin.ext h1
  | ⟨2, _⟩ => exact Fin.ext h2
  | ⟨3, _⟩ => exact Fin.ext h3

theorem emb_acc (k : Fin 4) (j : S128x384.Idx) : (accC k).view.emb j = chunkIx k j := by
  have h : (accC k).view.emb j = (accRect k).emb (Fin.cons ⟨0, Nat.one_pos⟩ j) :=
    congrArg (accRect k).emb (Shape.reshapeEquiv_cons_one _ j)
  rw [h]
  apply ext3 <;> rw [Rect.emb_apply] <;> simp [chunkIx, Fin.cons] <;> rfl

theorem emb_rcv (r : Fin 2) (k : Fin 4) (j : S128x384.Idx) : (rcvC r k).view.emb j = rowIx r (chunkIx k j) := by
  have h : (rcvC r k).view.emb j
      = (Rect.unit (s := S2x2x256x384) ![r.val, 0, 0, 0] S1x2x256x384.size (inbRow r)).emb (Fin.cons ⟨0, Nat.one_pos⟩ (chunkIx k j)) := by
    rw [← emb_acc]
    exact congrArg (Rect.unit (s := S2x2x256x384) ![r.val, 0, 0, 0] S1x2x256x384.size (inbRow r)).emb
      (Shape.reshapeEquiv_cons_one _ ((accC k).view.emb j))
  rw [h]
  apply ext4 <;> rw [Rect.emb_apply] <;> simp [rowIx, Fin.cons] <;> rfl

/-- An element of the accumulator is in chunk `k` exactly when its batch and its half of the rows say so. -/
theorem mem_acc {k : Fin 4} {i : S2x256x384.Idx} : i ∈ (accC k).view.set ↔ 2 * (i 0).val + (i 1).val / 128 = k.val := by
  constructor
  · intro h
    obtain ⟨j, -, rfl⟩ := Finset.mem_map.mp h
    rw [emb_acc]
    have := (j 0).isLt; change (j 0).val < 128 at this
    show 2 * (k.val / 2) + (128 * (k.val % 2) + (j 0).val) / 128 = k.val
    omega
  · intro h
    have h0 := (i 0).isLt; change (i 0).val < 2 at h0
    have h1 := (i 1).isLt; change (i 1).val < 256 at h1
    refine Finset.mem_map.mpr ⟨ix2 (⟨(i 1).val % 128, by omega⟩ : Fin 128) (⟨(i 2).val, (i 2).isLt⟩ : Fin 384), Finset.mem_univ _, ?_⟩
    rw [emb_acc]
    apply ext3
    · show k.val / 2 = (i 0).val; omega
    · show 128 * (k.val % 2) + (i 1).val % 128 = (i 1).val; omega
    · rfl
theorem mem_rcv {r : Fin 2} {k : Fin 4} {i : S2x2x256x384.Idx} :
    i ∈ (rcvC r k).view.set ↔ (i 0).val = r.val ∧ 2 * (i 1).val + (i 2).val / 128 = k.val := by
  constructor
  · intro h
    obtain ⟨j, -, rfl⟩ := Finset.mem_map.mp h
    rw [emb_rcv]
    have := (j 0).isLt; change (j 0).val < 128 at this
    refine ⟨rfl, ?_⟩
    show 2 * (k.val / 2) + (128 * (k.val % 2) + (j 0).val) / 128 = k.val
    omega
  · rintro ⟨hr, h⟩
    have h0 := (i 1).isLt; change (i 1).val < 2 at h0
    have h1 := (i 2).isLt; change (i 2).val < 256 at h1
    refine Finset.mem_map.mpr ⟨ix2 (⟨(i 2).val % 128, by omega⟩ : Fin 128) (⟨(i 3).val, (i 3).isLt⟩ : Fin 384), Finset.mem_univ _, ?_⟩
    rw [emb_rcv]
    apply ext4
    · exact hr.symm
    · show k.val / 2 = (i 1).val; omega
    · show 128 * (k.val % 2) + (i 2).val % 128 = (i 2).val; omega
    · rfl

/-- The elements a vector access of chunk `k` touches are the chunk's. -/
theorem set_accAt (k : Fin 4) : (accM.access (accRect k)).set = (accC k).view.set := (View.set_reshape _ _).symm
theorem set_rcvAt (r : Fin 2) (k : Fin 4) : (rcvM.access (rcvRect r k)).set = (rcvC r k).view.set := by
  ext i
  rw [mem_rcv]
  show i ∈ ((View.whole cc0_scratch1).slice (rcvRect r k)).set ↔ _
  rw [View.set_slice_whole, Rect.mem_set_unit]
  constructor
  · intro h
    have h0 := h 0; have h1 := h 1; have h2 := h 2
    simp [S1x1x128x384] at h0 h1 h2
    omega
  · rintro ⟨h0, h1⟩
    have l0 := (i 0).isLt; change (i 0).val < 2 at l0
    have l1 := (i 1).isLt; change (i 1).val < 2 at l1
    have l2 := (i 2).isLt; change (i 2).val < 256 at l2
    have l3 := (i 3).isLt; change (i 3).val < 384 at l3
    intro a
    match a with
    | ⟨0, _⟩ => show r.val ≤ (i 0).val ∧ (i 0).val < r.val + 1; omega
    | ⟨1, _⟩ => show k.val / 2 ≤ (i 1).val ∧ (i 1).val < k.val / 2 + 1; omega
    | ⟨2, _⟩ => show 128 * (k.val % 2) ≤ (i 2).val ∧ (i 2).val < 128 * (k.val % 2) + 128; omega
    | ⟨3, _⟩ => show 0 ≤ (i 3).val ∧ (i 3).val < 0 + 384; omega

variable (A : Dev nD → AccBuf F)

/-! ## The buffers, split into their chunks -/

theorem acc_cover : (Finset.univ.biUnion fun k : Fin 4 => (accC k).view.set) = (Finset.univ : Finset S2x256x384.Idx) := by
  refine Finset.eq_univ_iff_forall.mpr fun i => Finset.mem_biUnion.mpr ?_
  have h0 := (i 0).isLt; change (i 0).val < 2 at h0
  have h1 := (i 1).isLt; change (i 1).val < 256 at h1
  exact ⟨⟨2 * (i 0).val + (i 1).val / 128, by omega⟩, Finset.mem_univ _, mem_acc.mpr rfl⟩

/-- The accumulator is its four chunks. -/
theorem acc_split (c : Dev nD) (f : AccBuf F) :
    (((c : Thread nD τ).loc cc0_scratch0) ↦{fullShare} f : sProp 𝕄) = bigSep Finset.univ fun k => accPts c k f := by
  have h := pointsTo_biUnion (nD := nD) (τ := τ) (sig := sig) (Ix := Unit) (Val := Elt F) (Name := ℕ) (U := UU) (Lvl := ℕ)
    (ℓ := (c : Thread nD τ).loc cc0_scratch0) (q := fullShare) (f := f) Finset.univ (fun k : Fin 4 => (accC k).view.set)
    fun t _ t' _ hne => Finset.disjoint_left.mpr fun i h h' => hne (Fin.ext ((mem_acc.mp h).symm.trans (mem_acc.mp h')))
  rw [show (Finset.univ.biUnion fun k : Fin 4 => (accC k).view.set) = (Finset.univ : Finset S2x256x384.Idx) from acc_cover] at h
  exact h

theorem rcv_cover : (Finset.univ.biUnion fun x : Fin 2 × Fin 4 => (rcvC x.1 x.2).view.set) = (Finset.univ : Finset S2x2x256x384.Idx) := by
  refine Finset.eq_univ_iff_forall.mpr fun i => Finset.mem_biUnion.mpr ?_
  have h1 := (i 1).isLt; change (i 1).val < 2 at h1
  have h2 := (i 2).isLt; change (i 2).val < 256 at h2
  exact ⟨(⟨(i 0).val, (i 0).isLt⟩, ⟨2 * (i 1).val + (i 2).val / 128, by omega⟩), Finset.mem_univ _, mem_rcv.mpr ⟨rfl, rfl⟩⟩
theorem rcv_disjoint : ∀ t ∈ (Finset.univ : Finset (Fin 2 × Fin 4)), ∀ t' ∈ (Finset.univ : Finset (Fin 2 × Fin 4)), t ≠ t' →
    Disjoint (rcvC t.1 t.2).view.set (rcvC t'.1 t'.2).view.set := fun t _ t' _ hne =>
  Finset.disjoint_left.mpr fun i h h' => hne (Prod.ext (Fin.ext ((mem_rcv.mp h).1.symm.trans (mem_rcv.mp h').1))
    (Fin.ext ((mem_rcv.mp h).2.symm.trans (mem_rcv.mp h').2)))

/-- The landing buffers are their eight chunks. -/
theorem rcv_split (c : Dev nD) (f : RcvBuf F) :
    (((c : Thread nD τ).loc cc0_scratch1) ↦{fullShare} f : sProp 𝕄)
      = iprop((bigSep Finset.univ fun k => rcvPts c 0 k f) ∗ bigSep Finset.univ fun k => rcvPts c 1 k f) := by
  have h := pointsTo_biUnion (nD := nD) (τ := τ) (sig := sig) (Ix := Unit) (Val := Elt F) (Name := ℕ) (U := UU) (Lvl := ℕ)
    (ℓ := (c : Thread nD τ).loc cc0_scratch1) (q := fullShare) (f := f) Finset.univ
    (fun x : Fin 2 × Fin 4 => (rcvC x.1 x.2).view.set) rcv_disjoint
  rw [show (Finset.univ.biUnion fun x : Fin 2 × Fin 4 => (rcvC x.1 x.2).view.set) = (Finset.univ : Finset S2x2x256x384.Idx)
    from rcv_cover] at h
  refine h.trans ((bigSep_univ_prod (fun x : Fin 2 × Fin 4 => rcvPts (F := F) c x.1 x.2 f)).trans ?_)
  rw [bigSep_univ_eq_bigSepL [0, 1] (by decide) (by decide)]
  rfl

/-- Chunks at contents of their own make the landing buffers whole at some contents. -/
theorem rcv_join (c : Dev nD) :
    iprop((bigSep Finset.univ fun k => rcvPts c 0 k (landed A c)) ∗ bigSep Finset.univ fun k => rcvPts c 1 k (landed A c))
      ⊢ (iprop(∃ f, ((c : Thread nD τ).loc cc0_scratch1) ↦{fullShare} f) : sProp 𝕄) := by
  rw [← rcv_split]
  iintro H; iexists _; iexact H

/-! ## What a transfer and an accumulation leave -/

/-- A transfer of round `r` to device `c`'s partner leaves there what the partner is to receive. -/
theorem landed_eq (c : Dev nD) (r : Fin 2) (k : Fin 4) (fd : RcvBuf F) :
    rcvPts (peer r c) r k ((rcvC r k).view.write (Elt F) fd ((accC k).view.read (Elt F) (accR A r c)) Finset.univ)
      = rcvPts (peer r c) r k (landed A (peer r c)) := by
  unfold rcvPts
  refine pointsTo_congr fun i hi => ?_
  obtain ⟨j, -, rfl⟩ := Finset.mem_map.mp hi
  rw [View.write_emb_of_mem _ _ (Finset.mem_univ j)]
  show accR A r c ((accC k).view.emb j) = landed A (peer r c) ((rcvC r k).view.emb j)
  rw [emb_acc, emb_rcv]
  show accR A r c (chunkIx k j) = accR A r (peer r (peer r c)) _
  rw [peer_peer]
  congr 1

/-- What the two loads of an accumulation step read, and what its store leaves: the sum, element by element. -/
theorem add_eq (c : Dev nD) (r : Fin 2) (k : Fin 4) :
    accPts c k ((accM.access (accRect k)).write (Elt F) (accR A r c)
        (k0_pay42 (accM.view.readAt (Elt F) (accRect k).toLoadRect (accR A r c))
          (rcvM.view.readAt (Elt F) (rcvRect r k).toLoadRect (landed A c))) Finset.univ)
      = accPts c k (accS A r c) := by
  unfold accPts
  refine pointsTo_congr fun i hi => ?_
  rw [← set_accAt] at hi
  obtain ⟨x, -, rfl⟩ := Finset.mem_map.mp hi
  rw [View.write_emb_of_mem _ _ (Finset.mem_univ x)]
  have hx : x = ix3 (0 : Fin 1) (⟨(x 1).val, (x 1).isLt⟩ : Fin 128) (⟨(x 2).val, (x 2).isLt⟩ : Fin 384) := by
    funext a
    match a with
    | ⟨0, _⟩ => exact Fin.ext (by have := (x 0).isLt; change (x 0).val < 1 at this; show (x 0).val = 0; omega)
    | ⟨1, _⟩ => rfl
    | ⟨2, _⟩ => rfl
  rw [hx]
  generalize (⟨(x 1).val, (x 1).isLt⟩ : Fin 128) = a
  generalize (⟨(x 2).val, (x 2).isLt⟩ : Fin 384) = b
  show k0_pay42 _ _ (ix3 (0 : Fin 1) a b) = _
  unfold k0_pay42
  dsimp only
  rw [ValueIdx.shapeCast_ab_1ab_apply]
  show FloatOps.addf (shapeCast S128x384 _ _ (ix2 a b)) (shapeCast S128x384 _ _ (ix2 a b)) = accS A r c _
  rw [ValueIdx.shapeCast_1ab_ab_apply, shapeCast_apply _ _ (ix2 a b) (ix4 (0 : Fin 1) (0 : Fin 1) a b) (by
    rw [Shape.rowMajor_val_four, Shape.rowMajor_val_two]
    show ((0 * 1 + 0) * 128 + a.val) * 384 + b.val = a.val * 384 + b.val
    omega)]
  show FloatOps.addf (accR A r c ((accRect k).emb (ix3 (0 : Fin 1) a b))) (landed A c ((rcvRect r k).emb (ix4 (0 : Fin 1) (0 : Fin 1) a b))) = _
  have e1 : (accRect k).emb (ix3 (0 : Fin 1) a b) = chunkIx k (ix2 a b) := by
    apply ext3 <;> rw [Rect.emb_apply] <;> simp [chunkIx]
  have e2 : (rcvRect r k).emb (ix4 (0 : Fin 1) (0 : Fin 1) a b) = rowIx r (chunkIx k (ix2 a b)) := by
    apply ext4 <;> rw [Rect.emb_apply] <;> simp [chunkIx, rowIx]
  show _ = accS A r c ((accRect k).emb (ix3 (0 : Fin 1) a b))
  rw [e1, e2]
  rfl

end Cert.KernelIdeal.Run

end
-- ==== Proof.RunKernelIdeal.Exchange.lean ====
/-
The exchange, one step at a time: a signal, the wait on the barrier, the transfer of a chunk, the waits on its two
semaphores, and the accumulation of a landed chunk. Each is stated once for every round and chunk.
-/
module

public import proofs.«01_k».proof.Proof.RunKernelIdeal.Chunks

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → AccBuf F) (K : Dev nD × Option Slot → ℕ)

/-! ## What every step reads, and what a transfer passes through -/

/-- Every cell's invariant, and that every cell is at its round 0. -/
def records : sProp 𝕄 :=
  iprop((bigSep Finset.univ fun ck : Dev nD × Option Slot => cellInv ER (sched A) (K ck) (kcell ck))
    ∗ bigSep Finset.univ fun ck : Dev nD × Option Slot => reached ER (kcell ck) 0)

instance records_persistent : BI.Persistent (records A K) := by unfold records; infer_instance

theorem inv_at (ck : Dev nD × Option Slot) : (records A K : sProp 𝕄) ⊢ cellInv ER (sched A) (K ck) (kcell ck) := by
  unfold records
  iintro ⟨H, -⟩
  iapply (show (bigSep Finset.univ fun ck : Dev nD × Option Slot => (cellInv ER (sched A) (K ck) (kcell ck) : sProp 𝕄))
    ⊢ cellInv ER (sched A) (K ck) (kcell ck) from bigSep_elim (Finset.mem_univ ck))
  iexact H
theorem reached_at (ck : Dev nD × Option Slot) : (records A K : sProp 𝕄) ⊢ reached ER (kcell ck) 0 := by
  unfold records
  iintro ⟨-, H⟩
  iapply (show (bigSep Finset.univ fun ck : Dev nD × Option Slot => (reached ER (kcell ck) 0 : sProp 𝕄))
    ⊢ reached ER (kcell ck) 0 from bigSep_elim (Finset.mem_univ ck))
  iexact H

/-- What device `c` owes with `n` transfers issued, whatever it has waited for. -/
def debt (c : Dev nD) (n : ℕ) : sProp 𝕄 := iprop(∃ W, owes (c : Thread nD τ) (owed c n) W)

/-- A transfer not yet issued: its cells' positions, the duties it pays, the credit of what will land. -/
def idle (c : Dev nD) (r : Fin 2) (k : Fin 4) : sProp 𝕄 :=
  iprop(atPos ER (sendCell c r k) 0 ∅ 0 ∗ atPos ER (recvCell c r k) 0 ∅ 0 ∗ dutyTok ER (sendCell c r k) 0 false
    ∗ dutyTok ER (recvCell (peer r c) r k) 0 false ∗ cred (tallyAt (recvCell c r k) () N))
/-- A transfer in flight. -/
def flying (c : Dev nD) (r : Fin 2) (k : Fin 4) : sProp 𝕄 :=
  iprop(atPos ER (sendCell c r k) 0 ∅ 0 ∗ cred (tallyAt (sendCell c r k) () N)
    ∗ atPos ER (recvCell c r k) 0 ∅ 0 ∗ cred (tallyAt (recvCell c r k) () N))
/-- A transfer sent: what is left is to receive. -/
def sent (c : Dev nD) (r : Fin 2) (k : Fin 4) : sProp 𝕄 :=
  iprop(semVal (sendCell c r k) 0 ∗ atPos ER (recvCell c r k) 0 ∅ 0 ∗ cred (tallyAt (recvCell c r k) () N))
/-- Both semaphores of a transfer at zero. -/
def home (c : Dev nD) (r : Fin 2) (k : Fin 4) : sProp 𝕄 :=
  iprop(semVal (sendCell c r k) 0 ∗ semVal (recvCell c r k) 0)

/-! ## The steps -/

/-- Every chunk, wherever it lies, is worth the same credit. -/
theorem credit_rcv (r : Fin 2) (k : Fin 4) : (rcvC r k).view.dmaCredit = N := rfl
theorem credit_acc (k : Fin 4) : (accC k).view.dmaCredit = N := rfl

/-- The transfer of chunk `k` in round `r`, addressed to the partner: it takes the chunk and the partner's landing
    place and is in flight. -/
theorem wp_send (c n : Dev nD) (r : Fin 2) (k : Fin 4) (hn : n = peer r c) (m : ℕ) (hm : m < 8) (hr : rOf m = r) (hk : kOf m = k)
    {hsc : (rcvC r k : Memref sig (Dev.tc n : Thread nD τ).2.kind .vmem S128x384 .f32).view.ref.isScScratch = false}
    {hsrc : (accC k).view.WordExact} {hdst : (rcvC r k).view.WordExact}
    {hsem : DmaTarget.Typed .vmem (.dma (recvS r k)) (.remote (Dev.tc n : Thread nD τ) (rcvC r k) (.dma (sendS r k)) hsc)}
    {α : Type} {Q : α → sProp 𝕄} {kont : PUnit → Prog (TpuEff nD τ sig (Elt F) Λ₀ .tc) α} :
    iprop(records A K ∗ idle (F := F) c r k ∗ accPts c k (accR A r c) ∗ (∃ f, rcvPts (F := F) (peer r c) r k f) ∗ debt (F := F) c m)
      ⊢ iprop((flying (F := F) c r k ∗ debt (F := F) c (m + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (accC k) (.remote (Dev.tc n : Thread nD τ) (rcvC r k) (.dma (sendS r k)) hsc) (.dma (recvS r k)) hsrc hdst hsem) kont) Q) := by
  subst hn
  iintro ⟨#HR, Hidle, Hacc, ⟨%fd, Hrcv⟩, Hdebt⟩ Hk
  unfold idle debt
  icases Hidle with ⟨HaS, HaV, HtS, HtV, HcV⟩
  icases Hdebt with ⟨%W, HO⟩
  ihave #HiS := (inv_at A K (c, some (0, r, k))) $$ HR
  ihave #HiV := (inv_at A K (peer r c, some (1, r, k))) $$ HR
  ihave #HrS := (reached_at A K (c, some (0, r, k))) $$ HR
  ihave #HrV := (reached_at A K (peer r c, some (1, r, k))) $$ HR
  have hO : owed c m = owed c (m + 1) + tallyAt (recvCell (peer r c) r k) () N := by
    rw [owed_step c hm]; unfold due; rw [hr, hk]
  unfold accPts rcvPts
  iapply (Rounds.wp_send_pointsTo 𝒱₀ ER (sched A) (c : Thread nD τ) none (src := accC k) (dst := rcvC r k) (c' := (peer r c : Thread nD τ))
    (sS := .dma (sendS r k)) (sem := .dma (recvS r k)) (κ₁ := K (c, some (0, r, k))) (κ₂ := K (peer r c, some (1, r, k)))
    (r₁ := 0) (r₂ := 0) (d₁ := false) (d₂ := false) (fd := fd)
    (by rw [duties_send]; exact Finset.mem_singleton_self _) (by rw [duties_recv]; exact Finset.mem_singleton_self _)
    () () N (credit_rcv r k) (amount_send A c r k false) (amount_recv A (peer r c) r k false) (owed c (m + 1)) hO (W := W)
    (by rw [payload_send]; exact BI.Entails.refl _)
    (by rw [payload_recv]; exact Entails.of_eq (landed_eq A c r k fd))) $$ [Hacc Hrcv HO HtS HtV]
  · isplitr; · iexact HiS
    isplitr; · iexact HiV
    isplitl [Hacc]; · iexact Hacc
    isplitl [Hrcv]; · iexact Hrcv
    isplitl [HO]; · iexact HO
    isplitl [HtS]; · iexact HtS
    isplitr; · iexact HrS
    isplitl [HtV]; · iexact HtV
    iexact HrV
  iintro ⟨HcS, HO⟩
  iapply Hk
  unfold flying
  isplitr [HO]
  · isplitl [HaS]; · iexact HaS
    isplitl [HcS]; · iexact HcS
    isplitl [HaV] <;> iassumption
  · iexists W; iexact HO

/-- The wait on a transfer's send semaphore gives the chunk back. -/
theorem wp_sent (c : Dev nD) (r : Fin 2) (k : Fin 4) (m : ℕ)
    {hsrc : (accC k).view.WordExact} {hdst : (rcvC r k).view.WordExact}
    {α : Type} {Q : α → sProp 𝕄} {kont : PUnit → Prog (TpuEff nD τ sig (Elt F) Λ₀ .tc) α} :
    iprop(records A K ∗ levAts L lv ∗ flying (F := F) c r k ∗ debt (F := F) c m)
      ⊢ iprop((sent (F := F) c r k ∗ accPts c k (accR A r c) ∗ debt (F := F) c m
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS r k) (rcvC r k) (accC k) hdst hsrc) kont) Q) := by
  iintro ⟨#HR, #Hlev, Hfly, Hdebt⟩ Hk
  unfold flying debt
  icases Hfly with ⟨HaS, HcS, HaV, HcV⟩
  icases Hdebt with ⟨%W, HO⟩
  ihave #HiS := (inv_at A K (c, some (0, r, k))) $$ HR
  iapply (Rounds.wp_wait_rest_token 𝒱₀ ER (sched A) (c : Thread nD τ) none (κ := K (c, some (0, r, k)))
      (wpE_waitDma2_eq 𝒱₀ (c : Thread nD τ) none Set.univ) (Set.mem_univ _) () (O := owed c m) (W := W) (R := 0) (m := 0) (T := ∅)
      (by rw [Nat.zero_add, expect_send])) $$ [HcS HO HaS]
  · isplitr; · iexact HiS
    isplitl [HcS]; · iexact HcS
    isplitl [HO]; · iexact HO
    isplitr
    · iapply (mayWait_owed (F := F) c (.dma (sendS r k)) m (fun j _ _ => by rw [lv_send]; omega)); iexact Hlev
    iexact HaS
  iintro ⟨HO, HaS, -, Hpay⟩
  ihave Hacc := (Entails.of_eq (rest_send A c r k)) $$ Hpay
  imod (Rounds.cell_close ER (sched A) (Set.mem_univ (K (c, some (0, r, k)))) (fun h => h) (R := 0 + 1) (duties_later A (sendCell c r k))) $$ [HaS] with HzS
  · isplitr; · iexact HiS
    iexact HaS
  iapply Hk
  unfold sent
  isplitl [HzS HaV HcV]
  · isplitl [HzS]; · iexact HzS
    isplitl [HaV] <;> iassumption
  isplitl [Hacc]; · iexact Hacc
  iexists _; iexact HO

/-- The wait on a transfer's receive semaphore, every transfer of its round issued, gives the chunk landed. -/
theorem wp_recv (c : Dev nD) (r : Fin 2) (k : Fin 4) (m : ℕ) (hm : 4 * (r.val + 1) ≤ m)
    {hsrc : (accC k).view.WordExact} {hdst : (rcvC r k).view.WordExact}
    {α : Type} {Q : α → sProp 𝕄} {kont : PUnit → Prog (TpuEff nD τ sig (Elt F) Λ₀ .tc) α} :
    iprop(records A K ∗ levAts L lv ∗ sent (F := F) c r k ∗ debt (F := F) c m)
      ⊢ iprop((home (F := F) c r k ∗ rcvPts c r k (landed A c) ∗ debt (F := F) c m
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvS r k) (accC k) (rcvC r k) hsrc hdst) kont) Q) := by
  iintro ⟨#HR, #Hlev, Hsent, Hdebt⟩ Hk
  unfold sent debt
  icases Hsent with ⟨HzS, HaV, HcV⟩
  icases Hdebt with ⟨%W, HO⟩
  ihave #HiV := (inv_at A K (c, some (1, r, k))) $$ HR
  iapply (Rounds.wp_wait_rest_token 𝒱₀ ER (sched A) (c : Thread nD τ) none (κ := K (c, some (1, r, k)))
      (wpE_waitDma2_eq 𝒱₀ (c : Thread nD τ) none Set.univ) (Set.mem_univ _) () (O := owed c m) (W := W) (R := 0) (m := 0) (T := ∅)
      (by rw [Nat.zero_add, expect_recv])) $$ [HcV HO HaV]
  · isplitr; · iexact HiV
    isplitl [HcV]; · iexact HcV
    isplitl [HO]; · iexact HO
    isplitr
    · iapply (mayWait_owed (F := F) c (.dma (recvS r k)) m (fun j h1 h2 => by
        rw [lv_recv]
        show 2 + r.val < 2 + (j / 4) % 2
        omega)); iexact Hlev
    iexact HaV
  iintro ⟨HO, HaV, -, Hpay⟩
  ihave Hrcv := (Entails.of_eq (rest_recv A c r k)) $$ Hpay
  imod (Rounds.cell_close ER (sched A) (Set.mem_univ (K (c, some (1, r, k)))) (fun h => h) (R := 0 + 1) (duties_later A (recvCell c r k))) $$ [HaV] with HzV
  · isplitr; · iexact HiV
    iexact HaV
  iapply Hk
  unfold home
  isplitl [HzS HzV]
  · isplitl [HzS] <;> iassumption
  isplitl [Hrcv]; · iexact Hrcv
  iexists _; iexact HO

/-- The elements an access of a chunk touches lie in the chunk. -/
theorem load_acc_sub (k : Fin 4) : accM.view.setOn (accRect k).toLoadRect.set ⊆ (accC k).view.set := by
  rw [← set_accAt]; exact (View.set_slice _ _).ge
theorem load_rcv_sub (r : Fin 2) (k : Fin 4) : rcvM.view.setOn (rcvRect r k).toLoadRect.set ⊆ (rcvC r k).view.set := by
  rw [← set_rcvAt]; exact (View.set_slice _ _).ge

/-- The accumulation of a landed chunk: three loads and a store. -/
theorem wp_add (c : Dev nD) (r : Fin 2) (k : Fin 4)
    {h1 : accM.view.LoadsAt (accRect k).toLoadRect} {h2 : rcvM.view.LoadsAt (rcvRect r k).toLoadRect}
    {h3 : accM.view.LoadsAt (accRect k).toLoadRect} {h4 : (accM.access (accRect k)).Stores Finset.univ}
    {h5 : (Finset.univ : Finset (accRect k).shape.Idx) = Finset.univ ∨ ∀ a, (accRect k).stride a = 1}
    {α : Type} {Q : α → sProp 𝕄} {kont : PUnit → Prog (TpuEff nD τ sig (Elt F) Λ₀ .tc) α} :
    iprop(accPts c k (accR A r c) ∗ rcvPts c r k (landed A c))
      ⊢ iprop((accPts c k (accS A r c) ∗ rcvPts c r k (landed A c)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.load accM (accRect k).toLoadRect h1) fun v => .op (.load rcvM (rcvRect r k).toLoadRect h2) fun w =>
                .op (.load accM (accRect k).toLoadRect h3) fun _ => .op (.store accM (accRect k) (k0_pay42 v w) Finset.univ h4 h5) kont) Q) := by
  iintro ⟨Hacc, Hrcv⟩ Hk
  unfold rcvPts
  rw [← add_eq]
  unfold accPts
  iapply (wp_load 𝒱₀ (c : Thread nD τ) none Set.univ (m := accM) (load_acc_sub k)) $$ Hacc; iintro Hacc
  iapply (wp_load 𝒱₀ (c : Thread nD τ) none Set.univ (m := rcvM) (load_rcv_sub r k)) $$ Hrcv; iintro Hrcv
  iapply (wp_load 𝒱₀ (c : Thread nD τ) none Set.univ (m := accM) (load_acc_sub k)) $$ Hacc; iintro Hacc
  iapply (wp_store 𝒱₀ (c : Thread nD τ) none Set.univ (m := accM) (r := accRect k) (Mk := Finset.univ) (set_accAt k).le) $$ Hacc; iintro Hacc
  iapply Hk
  isplitl [Hacc] <;> iassumption

end Cert.KernelIdeal.Run

end
-- ==== Proof.RunKernelIdeal.Norm.lean ====
/-
The kernel as a composition of a few repeated pieces: a head of a batch, a batch, the handshake, a transfer, a step of
round 0, a step of round 1, a batch of the result. `body_norm` says the printed kernel is that composition.
-/
module

public import proofs.«01_k».proof.Proof.RunKernelIdeal.Exchange

@[expose] public section

noncomputable section

namespace Cert.KernelIdeal.Run

open Cert.KernelIdeal Cert.KernelIdeal.Gen

open Idealize.ShloMosaic
open Idealize.ShloMosaic.TcCoe
open Idealize.SL.Sem

variable {F : FTy → Type} [FloatOps F]

/-- Programs of a device's core. -/
abbrev Pg (F : FTy → Type) : Type 1 := Prog (TpuEff nD τ sig (Elt F) Λ₀ .tc) PUnit

/-! ## Buffers and the places in them -/

abbrev xM : Memref sig .tc .vmem S2x256x512 .f32 := Memref.whole cc0_stg0_0
abbrev wqM : Memref sig .tc .vmem S512x256 .f32 := Memref.whole cc0_stg1_0
abbrev kM : Memref sig .tc .vmem S2x256x4x64 .f32 := Memref.whole cc0_stg2_0
abbrev vM : Memref sig .tc .vmem S2x256x4x64 .f32 := Memref.whole cc0_stg3_0
abbrev woM : Memref sig .tc .vmem S256x512 .f32 := Memref.whole cc0_stg4_0
abbrev oM : Memref sig .tc .vmem S2x256x512 .f32 := Memref.whole cc0_stg5_0

theorem inbX (b : Fin 2) : ∀ a, (![b.val, 0, 0] : Fin 3 → Nat) a + S1x256x512.size a ≤ S2x256x512.size a := by revert b; decide
theorem inbKV (b : Fin 2) (h : Fin 4) :
    ∀ a, (![b.val, 0, h.val, 0] : Fin 4 → Nat) a + S1x256x1x64.size a ≤ S2x256x4x64.size a := by revert b h; decide
theorem inbC (b : Fin 2) (h : Fin 4) :
    ∀ a, (![b.val, 0, 64 * h.val] : Fin 3 → Nat) a + S1x256x64.size a ≤ S2x256x384.size a := by revert b h; decide
theorem inbD (b : Fin 2) (h : Fin 4) :
    ∀ a, (![b.val, 0, 256 + 32 * h.val] : Fin 3 → Nat) a + S1x256x32.size a ≤ S2x256x384.size a := by revert b h; decide
theorem inbE (b : Fin 2) (h : Fin 4) :
    ∀ a, (![b.val, 0, 256 + 32 * h.val] : Fin 3 → Nat) a + S1x256x1.size a ≤ S2x256x384.size a := by revert b h; decide
theorem slQ (h : Fin 4) : S256x256.Slices ![0, 64 * h.val] S256x64 := by revert h; decide

/-- A batch of `x` (or of the result), a head of a batch of the keys (or values), and in the accumulator a head's
    numerators, its denominators, and the first column of the denominators. -/
abbrev xRect (b : Fin 2) : Rect S2x256x512 := Rect.unit (s := S2x256x512) ![b.val, 0, 0] S1x256x512.size (inbX b)
abbrev kvRect (b : Fin 2) (h : Fin 4) : Rect S2x256x4x64 :=
  Rect.unit (s := S2x256x4x64) ![b.val, 0, h.val, 0] S1x256x1x64.size (inbKV b h)
abbrev ctxRect (b : Fin 2) (h : Fin 4) : Rect S2x256x384 :=
  Rect.unit (s := S2x256x384) ![b.val, 0, 64 * h.val] S1x256x64.size (inbC b h)
abbrev denRect (b : Fin 2) (h : Fin 4) : Rect S2x256x384 :=
  Rect.unit (s := S2x256x384) ![b.val, 0, 256 + 32 * h.val] S1x256x32.size (inbD b h)
abbrev colRect (b : Fin 2) (h : Fin 4) : Rect S2x256x384 :=
  Rect.unit (s := S2x256x384) ![b.val, 0, 256 + 32 * h.val] S1x256x1.size (inbE b h)
abbrev wqRect : Rect S512x256 := Rect.unit (s := S512x256) ![0, 0] S512x256.size inb_S512x256_S512x256_0_0
abbrev woRect : Rect S256x512 := Rect.unit (s := S256x512) ![0, 0] S256x512.size inb_S256x512_S256x512_0_0

/-! ## Values -/

/-- The mask on device `d`: key block at most query block. -/
def mask (d : Dev nD) : IVec S256x256 1 :=
  k0_pay5 (Scalar.remsi (Scalar.divsi (Dev.word d) 1#32) 4#32) k0_pay2 (iota .tc S256x256 32 [1] iota_S256x256_d1_w32) 64#32 k0_pay3
    k0_pay4 (Scalar.extui (Scalar.cmpi .sgt 64#32 0#32)) (Scalar.cmpi .slt 64#32 0#32)

/-- The queries of a batch. -/
def projQ (x : Vec F S1x256x512 .f32) (wq : Vec F S512x256 .f32) : FVec F S256x256 .f32 :=
  matmul dot_S256x512_S512x256_S256x256_1_0_0_1_n_n none (shapeCast S256x512 x shapeCasts_S1x256x512_S256x512)
    (shapeCast S512x256 wq shapeCasts_S512x256_S512x256) (constant S256x256 .f32 0x00000000#32)

/-- A head's weights: the exponentials of its scaled scores where the mask allows, zero elsewhere. -/
def headW (msk : IVec S256x256 1) (q : FVec F S256x256 .f32) (h : Fin 4) (kk : Vec F S1x256x1x64 .f32) : FVec F S256x256 .f32 :=
  select msk (exp (mulf (matmul dot_S256x64_S64x256_S256x256_1_0_0_1_n_n none
      (extractStridedSlice S256x64 ![0, 64 * h.val] q (slQ h))
      (transpose S64x256 [1, 0] (shapeCast S256x64 kk shapeCasts_S1x256x1x64_S256x64) transposes_S256x64_p1_0_S64x256)
      (constant S256x256 .f32 0x00000000#32)) (broadcast S256x256 (Scalar.ofBits .f32 0x3E000000#32))))
    (broadcast S256x256 (Scalar.ofBits .f32 0x00000000#32))

/-- A head's numerators. -/
def headC (msk : IVec S256x256 1) (q : FVec F S256x256 .f32) (h : Fin 4) (kk vv : Vec F S1x256x1x64 .f32) : FVec F S1x256x64 .f32 :=
  shapeCast S1x256x64 (matmul dot_S256x256_S256x64_S256x64_1_0_0_1_n_n none (headW msk q h kk)
    (shapeCast S256x64 vv shapeCasts_S1x256x1x64_S256x64) (constant S256x64 .f32 0x00000000#32)) shapeCasts_S256x64_S1x256x64

/-- A head's denominators, repeated over the columns kept for them. -/
def headD (msk : IVec S256x256 1) (q : FVec F S256x256 .f32) (h : Fin 4) (kk : Vec F S1x256x1x64 .f32) : FVec F S1x256x32 .f32 :=
  shapeCast S1x256x32 (broadcastTo S256x32 (shapeCast S256x1 (shapeCast S256x1
    (multiReduction .add [1] S256 (headW msk q h kk) 0x00000000#32 reduces_S256x256_S256 (.inl rfl) rfl) shapeCasts_S256_S256x1)
    shapeCasts_S256x1_S256x1) broadcasts_S256x1_S256x32) shapeCasts_S256x32_S1x256x32

/-- One head's share of the result: numerators over denominators. -/
def quot (c : Vec F S1x256x64 .f32) (d : Vec F S1x256x1 .f32) : FVec F S256x64 .f32 :=
  divf (shapeCast S256x64 c shapeCasts_S1x256x64_S256x64)
    (broadcastTo S256x64 (shapeCast S256x1 d shapeCasts_S1x256x1_S256x1) broadcasts_S256x1_S256x64)

/-- A batch of the result: the heads' quotients side by side, times the output matrix. -/
def outV (c0 : Vec F S1x256x64 .f32) (d0 : Vec F S1x256x1 .f32) (c1 : Vec F S1x256x64 .f32) (d1 : Vec F S1x256x1 .f32)
    (c2 : Vec F S1x256x64 .f32) (d2 : Vec F S1x256x1 .f32) (c3 : Vec F S1x256x64 .f32) (d3 : Vec F S1x256x1 .f32)
    (wo : Vec F S256x512 .f32) : FVec F S1x256x512 .f32 :=
  shapeCast S1x256x512 (matmul dot_S256x256_S256x512_S256x512_1_0_0_1_n_n none
    (concatenate S256x256 1 [⟨S256x64, quot c0 d0⟩, ⟨S256x64, quot c1 d1⟩, ⟨S256x64, quot c2 d2⟩, ⟨S256x64, quot c3 d3⟩]
      concatenates_S256x64_S256x64_S256x64_S256x64_S256x256_d1)
    (shapeCast S256x512 wo shapeCasts_S256x512_S256x512) (constant S256x512 .f32 0x00000000#32)) shapeCasts_S256x512_S1x256x512

/-! ## The pieces -/

/-- Storing one part of the accumulator, after an idle load of it. -/
abbrev putP (r : Rect S2x256x384) (hr : 0 < r.shape.numel) (hs : (accM.access r).Stores Finset.univ) (w : r.shape.Idx → Elt F .f32) (kont : Pg F) : Pg F :=
  .op (.load accM r.toLoadRect (View.loadsAt_vmem hr)) fun _ => .op (.store accM r w Finset.univ hs (.inl rfl)) fun _ => kont

/-- One head of batch `b`: its numerators and denominators, computed and put into the accumulator. -/
def headP (msk : IVec S256x256 1) (q : FVec F S256x256 .f32) (b : Fin 2) (h : Fin 4) (kont : Pg F) : Pg F :=
  .op (.load kM (kvRect b h).toLoadRect (View.loadsAt_vmem h_S1x256x1x64)) fun kk =>
  .op (.load vM (kvRect b h).toLoadRect (View.loadsAt_vmem h_S1x256x1x64)) fun vv =>
  putP (ctxRect b h) h_S1x256x64 (View.stores_vmem_bits_univ h_S1x256x64 rfl) (headC msk q h kk vv) <|
  putP (denRect b h) h_S1x256x32 (View.stores_vmem_bits_univ h_S1x256x32 rfl) (headD msk q h kk) kont

/-- One batch: its queries, then its heads. -/
def batchP (msk : IVec S256x256 1) (b : Fin 2) (kont : Pg F) : Pg F :=
  .op (.load xM (xRect b).toLoadRect (View.loadsAt_vmem h_S1x256x512)) fun x =>
  .op (.load wqM wqRect.toLoadRect (View.loadsAt_vmem h_S512x256)) fun wq =>
  headP msk (projQ x wq) b 0 <| headP msk (projQ x wq) b 1 <| headP msk (projQ x wq) b 2 <| headP msk (projQ x wq) b 3 kont

/-- The handshake with the two partners. -/
def barP (n₁ n₂ : Dev nD) (kont : Pg F) : Pg F :=
  .op (.semSignal ((n₁, .tc) : Thread nD τ) barS (1#32 : BitVec 32).toInt) fun _ =>
  .op (.semSignal ((n₂, .tc) : Thread nD τ) barS (1#32 : BitVec 32).toInt) fun _ =>
  .op (.semWait barS (2#32 : BitVec 32).toInt) fun _ => kont

/-- The transfer of chunk `k` in round `r` to device `n`. -/
def sendP (r : Fin 2) (k : Fin 4) (n : Dev nD) (kont : Pg F) : Pg F :=
  .op (.enqueueDma (accC k) (.remote (Dev.tc n) (rcvC r k) (.dma (sendS r k))) (.dma (recvS r k))
    ((View.wordExact_bits rfl).reshape _ _) ((View.wordExact_bits rfl).reshape _ _) ⟨⟨rfl, Or.inl rfl⟩, trivial⟩) fun _ => kont

/-- Chunk `k` of round `r`, received and accumulated. -/
def takeP (r : Fin 2) (k : Fin 4) (kont : Pg F) : Pg F :=
  .op (.waitDma2 (sendS r k) (rcvC r k) (accC k) ((View.wordExact_bits rfl).reshape _ _) ((View.wordExact_bits rfl).reshape _ _)) fun _ =>
  .op (.waitDma2 (recvS r k) (accC k) (rcvC r k) ((View.wordExact_bits rfl).reshape _ _) ((View.wordExact_bits rfl).reshape _ _)) fun _ =>
  .op (.load accM (accRect k).toLoadRect (View.loadsAt_vmem h_S1x128x384)) fun v =>
  .op (.load rcvM (rcvRect r k).toLoadRect (View.loadsAt_vmem h_S1x1x128x384)) fun w =>
  .op (.load accM (accRect k).toLoadRect (View.loadsAt_vmem h_S1x128x384)) fun _ =>
  .op (.store accM (accRect k) (k0_pay42 v w) Finset.univ (View.stores_vmem_bits_univ h_S1x128x384 rfl) (.inl rfl)) fun _ => kont

/-- Reading one head's numerators and denominators. -/
abbrev getP (b : Fin 2) (h : Fin 4) (kont : Vec F S1x256x64 .f32 → Vec F S1x256x1 .f32 → Pg F) : Pg F :=
  .op (.load accM (ctxRect b h).toLoadRect (View.loadsAt_vmem h_S1x256x64)) fun c =>
  .op (.load accM (colRect b h).toLoadRect (View.loadsAt_vmem h_S1x256x1)) fun d => kont c d

/-- Batch `b` of the result. -/
def finP (b : Fin 2) (kont : Pg F) : Pg F :=
  getP b 0 fun c0 d0 => getP b 1 fun c1 d1 => getP b 2 fun c2 d2 => getP b 3 fun c3 d3 =>
  .op (.load woM woRect.toLoadRect (View.loadsAt_vmem h_S256x512)) fun wo =>
  .op (.load oM (xRect b).toLoadRect (View.loadsAt_vmem h_S1x256x512)) fun _ =>
  .op (.store oM (xRect b) (outV c0 d0 c1 d1 c2 d2 c3 d3 wo) Finset.univ (View.stores_vmem_bits_univ h_S1x256x512 rfl) (.inl rfl)) fun _ => kont

/-- The whole kernel. -/
def bodyN : Pg F :=
  .op .deviceId fun d =>
  batchP (mask d) 0 <| batchP (mask d) 1 <|
  barP ⟨k0_dev1 d, k0_dev1_lt d⟩ ⟨k0_dev2 d, k0_dev2_lt d⟩ <|
  sendP 0 0 ⟨k0_dev3 d, k0_dev3_lt d⟩ <| sendP 0 1 ⟨k0_dev4 d, k0_dev4_lt d⟩ <|
  sendP 0 2 ⟨k0_dev5 d, k0_dev5_lt d⟩ <| sendP 0 3 ⟨k0_dev6 d, k0_dev6_lt d⟩ <|
  takeP 0 0 <| sendP 1 0 ⟨k0_dev7 d, k0_dev7_lt d⟩ <| takeP 0 1 <| sendP 1 1 ⟨k0_dev8 d, k0_dev8_lt d⟩ <|
  takeP 0 2 <| sendP 1 2 ⟨k0_dev9 d, k0_dev9_lt d⟩ <| takeP 0 3 <| sendP 1 3 ⟨k0_dev10 d, k0_dev10_lt d⟩ <|
  takeP 1 0 <| takeP 1 1 <| finP 0 <| takeP 1 2 <| takeP 1 3 <| finP 1 <| .ret ⟨⟩

set_option maxRecDepth 65536 in
/-- The printed kernel is the composition. -/
theorem body_norm : (cc0_body (F := F) xM (Memref.isWhole_whole _) wqM (Memref.isWhole_whole _) kM (Memref.isWhole_whole _)
      vM (Memref.isWhole_whole _) woM (Memref.isWhole_whole _) oM (Memref.isWhole_whole _) accM (Memref.isWhole_whole _)
      rcvM (Memref.isWhole_whole _) cc0_scratch2 cc0_scratch3) = bodyN := by
  rfl

end Cert.KernelIdeal.Run

end
-- ==== Proof.RunKernelIdeal.Compute.lean ====
/-
The computing pieces of the kernel: what the heads put into the accumulator, and what is read back out of it for the
result.
-/
module

public import proofs.«01_k».proof.Proof.RunKernelIdeal.Norm

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4 eq_ix2 eq_ix3 eq_ix4)

variable {F : FTy → Type} [FloatOps F]

local notation "𝕄" => MT nD τ sig Unit (Elt F) ℕ UU ℕ

/-! ## The inputs on a device, and what its heads compute -/

abbrev XBuf (F : FTy → Type) : Type := S2x256x512.Idx → Elt F (EltTy.f32)
abbrev WqBuf (F : FTy → Type) : Type := S512x256.Idx → Elt F (EltTy.f32)
abbrev KvBuf (F : FTy → Type) : Type := S2x256x4x64.Idx → Elt F (EltTy.f32)
abbrev WoBuf (F : FTy → Type) : Type := S256x512.Idx → Elt F (EltTy.f32)

/-- The five inputs of one device. -/
structure Ins (F : FTy → Type) where
  x : XBuf F
  wq : WqBuf F
  k : KvBuf F
  v : KvBuf F
  wo : WoBuf F

variable (I : Ins F)

def qAt (b : Fin 2) : FVec F S256x256 .f32 :=
  projQ (xM.view.readAt (Elt F) (xRect b).toLoadRect I.x) (wqM.view.readAt (Elt F) wqRect.toLoadRect I.wq)
def ctxAt (d : Dev nD) (b : Fin 2) (h : Fin 4) : FVec F S1x256x64 .f32 :=
  headC (mask d) (qAt I b) h (kM.view.readAt (Elt F) (kvRect b h).toLoadRect I.k) (vM.view.readAt (Elt F) (kvRect b h).toLoadRect I.v)
def denAt (d : Dev nD) (b : Fin 2) (h : Fin 4) : FVec F S1x256x32 .f32 :=
  headD (mask d) (qAt I b) h (kM.view.readAt (Elt F) (kvRect b h).toLoadRect I.k)

/-- The accumulator once every head is in it. -/
def tiles (d : Dev nD) : AccBuf F := fun i =>
  if h : (i 2).val < 256 then
    ctxAt I d (⟨(i 0).val, (i 0).isLt⟩ : Fin 2) (⟨(i 2).val / 64, by omega⟩ : Fin 4)
      (ix3 (0 : Fin 1) (⟨(i 1).val, (i 1).isLt⟩ : Fin 256) (⟨(i 2).val % 64, by omega⟩ : Fin 64))
  else
    denAt I d (⟨(i 0).val, (i 0).isLt⟩ : Fin 2)
      (⟨((i 2).val - 256) / 32, by have := (i 2).isLt; change (i 2).val < 384 at this; omega⟩ : Fin 4)
      (ix3 (0 : Fin 1) (⟨(i 1).val, (i 1).isLt⟩ : Fin 256) (⟨((i 2).val - 256) % 32, by omega⟩ : Fin 32))

theorem ctx_congr (d : Dev nD) {b b' : Fin 2} {h h' : Fin 4} {x x' : S1x256x64.Idx} (hb : b = b') (hh : h = h') (hx : x = x') :
    ctxAt I d b h x = ctxAt I d b' h' x' := by subst hb hh hx; rfl
theorem den_congr (d : Dev nD) {b b' : Fin 2} {h h' : Fin 4} {x x' : S1x256x32.Idx} (hb : b = b') (hh : h = h') (hx : x = x') :
    denAt I d b h x = denAt I d b' h' x' := by subst hb hh hx; rfl

/-- The accumulator's entry for row `a` and column `e` of a head's numerators. -/
theorem tiles_ctx (d : Dev nD) (b : Fin 2) (h : Fin 4) (a : Fin 256) (e : Fin 64) (i : S2x256x384.Idx)
    (h0 : (i 0).val = b.val) (h1 : (i 1).val = a.val) (h2 : (i 2).val = 64 * h.val + e.val) :
    tiles I d i = ctxAt I d b h (ix3 (0 : Fin 1) a e) := by
  have hlt : (i 2).val < 256 := by omega
  unfold tiles
  rw [dif_pos hlt]
  refine ctx_congr I d (Fin.ext h0) (Fin.ext (by show (i 2).val / 64 = h.val; omega)) ?_
  congr 1
  · exact Fin.ext h1
  · exact Fin.ext (by show (i 2).val % 64 = e.val; omega)

/-- The accumulator's entry for row `a` and column `e` of a head's denominators. -/
theorem tiles_den (d : Dev nD) (b : Fin 2) (h : Fin 4) (a : Fin 256) (e : Fin 32) (i : S2x256x384.Idx)
    (h0 : (i 0).val = b.val) (h1 : (i 1).val = a.val) (h2 : (i 2).val = 256 + 32 * h.val + e.val) :
    tiles I d i = denAt I d b h (ix3 (0 : Fin 1) a e) := by
  have hlt : ¬ (i 2).val < 256 := by omega
  unfold tiles
  rw [dif_neg hlt]
  refine den_congr I d (Fin.ext h0) (Fin.ext (by show ((i 2).val - 256) / 32 = h.val; omega)) ?_
  congr 1
  · exact Fin.ext h1
  · exact Fin.ext (by show ((i 2).val - 256) % 32 = e.val; omega)

/-! ## The accumulator, part by part -/

/-- When an element is stored: the parts of the accumulator are put in one after the other. -/
def rank (i : S2x256x384.Idx) : ℕ :=
  if (i 2).val < 256 then 8 * (i 0).val + 2 * ((i 2).val / 64) else 8 * (i 0).val + 2 * (((i 2).val - 256) / 32) + 1

theorem mem_ctx {b : Fin 2} {h : Fin 4} {i : S2x256x384.Idx} :
    i ∈ (accM.access (ctxRect b h)).set ↔ rank i = 8 * b.val + 2 * h.val := by
  show i ∈ ((View.whole cc0_scratch0).slice (ctxRect b h)).set ↔ _
  rw [View.set_slice_whole, Rect.mem_set_unit]
  have l0 := (i 0).isLt; change (i 0).val < 2 at l0
  have l1 := (i 1).isLt; change (i 1).val < 256 at l1
  have l2 := (i 2).isLt; change (i 2).val < 384 at l2
  unfold rank
  constructor
  · intro H
    have h0 := H 0; have h2 := H 2
    simp [S1x256x64] at h0 h2
    rw [if_pos (by omega)]; omega
  · intro H a
    split at H
    · match a with
      | ⟨0, _⟩ => show b.val ≤ (i 0).val ∧ (i 0).val < b.val + 1; omega
      | ⟨1, _⟩ => show 0 ≤ (i 1).val ∧ (i 1).val < 0 + 256; omega
      | ⟨2, _⟩ => show 64 * h.val ≤ (i 2).val ∧ (i 2).val < 64 * h.val + 64; omega
    · omega
theorem mem_den {b : Fin 2} {h : Fin 4} {i : S2x256x384.Idx} :
    i ∈ (accM.access (denRect b h)).set ↔ rank i = 8 * b.val + 2 * h.val + 1 := by
  show i ∈ ((View.whole cc0_scratch0).slice (denRect b h)).set ↔ _
  rw [View.set_slice_whole, Rect.mem_set_unit]
  have l0 := (i 0).isLt; change (i 0).val < 2 at l0
  have l1 := (i 1).isLt; change (i 1).val < 256 at l1
  have l2 := (i 2).isLt; change (i 2).val < 384 at l2
  unfold rank
  constructor
  · intro H
    have h0 := H 0; have h2 := H 2
    simp [S1x256x32] at h0 h2
    rw [if_neg (by omega)]; omega
  · intro H a
    split at H
    · omega
    · match a with
      | ⟨0, _⟩ => show b.val ≤ (i 0).val ∧ (i 0).val < b.val + 1; omega
      | ⟨1, _⟩ => show 0 ≤ (i 1).val ∧ (i 1).val < 0 + 256; omega
      | ⟨2, _⟩ => show 256 + 32 * h.val ≤ (i 2).val ∧ (i 2).val < 256 + 32 * h.val + 32; omega

/-- The first `n` parts of the accumulator are in. -/
def Agree (d : Dev nD) (n : ℕ) (f : AccBuf F) : Prop := ∀ i, rank i < n → f i = tiles I d i

/-- Storing the next part: if what is stored is what belongs there, one more part is in. -/
theorem agree_step (d : Dev nD) (n : ℕ) (f : AccBuf F) (r : Rect S2x256x384) (w : r.shape.Idx → Elt F .f32)
    (hm : ∀ i, i ∈ (accM.access r).set ↔ rank i = n) (hw : ∀ x, w x = tiles I d ((accM.access r).emb x)) (hf : Agree I d n f) :
    Agree I d (n + 1) ((accM.access r).write (Elt F) f w Finset.univ) := by
  intro i hi
  by_cases h : i ∈ (accM.access r).set
  · obtain ⟨x, -, rfl⟩ := Finset.mem_map.mp h
    rw [View.write_emb_of_mem _ _ (Finset.mem_univ x)]
    exact hw x
  · rw [View.write_of_not_mem _ _ _ h]
    have hne : rank i ≠ n := fun he => h ((hm i).mpr he)
    exact hf i (by omega)

theorem agree_ctx (d : Dev nD) (b : Fin 2) (h : Fin 4) (f : AccBuf F) (hf : Agree I d (8 * b.val + 2 * h.val) f) :
    Agree I d (8 * b.val + 2 * h.val + 1) ((accM.access (ctxRect b h)).write (Elt F) f (ctxAt I d b h) Finset.univ) := by
  refine agree_step I d _ f (ctxRect b h) (ctxAt I d b h) (fun i => mem_ctx) (fun x => ?_) hf
  refine ((tiles_ctx I d b h (⟨(x 1).val, (x 1).isLt⟩ : Fin 256) (⟨(x 2).val, (x 2).isLt⟩ : Fin 64) _ ?_ ?_ ?_).trans
    (congrArg _ ?_)).symm
  · have := (x 0).isLt; change (x 0).val < 1 at this
    show ((ctxRect b h).emb x 0).val = _
    rw [Rect.emb_apply]; simp [S1x256x64]; omega
  · show ((ctxRect b h).emb x 1).val = _
    rw [Rect.emb_apply]; simp
  · show ((ctxRect b h).emb x 2).val = _
    rw [Rect.emb_apply]; simp
  · funext a
    match a with
    | ⟨0, _⟩ => exact Fin.ext (by have := (x 0).isLt; change (x 0).val < 1 at this; show 0 = (x 0).val; omega)
    | ⟨1, _⟩ => rfl
    | ⟨2, _⟩ => rfl
theorem agree_den (d : Dev nD) (b : Fin 2) (h : Fin 4) (f : AccBuf F) (hf : Agree I d (8 * b.val + 2 * h.val + 1) f) :
    Agree I d (8 * b.val + 2 * h.val + 1 + 1) ((accM.access (denRect b h)).write (Elt F) f (denAt I d b h) Finset.univ) := by
  refine agree_step I d _ f (denRect b h) (denAt I d b h) (fun i => mem_den) (fun x => ?_) hf
  refine ((tiles_den I d b h (⟨(x 1).val, (x 1).isLt⟩ : Fin 256) (⟨(x 2).val, (x 2).isLt⟩ : Fin 32) _ ?_ ?_ ?_).trans
    (congrArg _ ?_)).symm
  · have := (x 0).isLt; change (x 0).val < 1 at this
    show ((denRect b h).emb x 0).val = _
    rw [Rect.emb_apply]; simp [S1x256x32]; omega
  · show ((denRect b h).emb x 1).val = _
    rw [Rect.emb_apply]; simp
  · show ((denRect b h).emb x 2).val = _
    rw [Rect.emb_apply]; simp
  · funext a
    match a with
    | ⟨0, _⟩ => exact Fin.ext (by have := (x 0).isLt; change (x 0).val < 1 at this; show 0 = (x 0).val; omega)
    | ⟨1, _⟩ => rfl
    | ⟨2, _⟩ => rfl

theorem agree_all (d : Dev nD) (f : AccBuf F) (hf : Agree I d 16 f) : f = tiles I d := by
  funext i
  refine hf i ?_
  have l0 := (i 0).isLt; change (i 0).val < 2 at l0
  have l2 := (i 2).isLt; change (i 2).val < 384 at l2
  unfold rank
  split <;> omega

/-! ## The computing pieces, stepped through -/

/-- The five inputs, held on device `c`. -/
def insPts (c : Dev nD) : sProp 𝕄 :=
  iprop((xM.view.loc (c : Thread nD τ) ↦{fullShare} I.x) ∗ (wqM.view.loc (c : Thread nD τ) ↦{fullShare} I.wq)
    ∗ (kM.view.loc (c : Thread nD τ) ↦{fullShare} I.k) ∗ (vM.view.loc (c : Thread nD τ) ↦{fullShare} I.v)
    ∗ (woM.view.loc (c : Thread nD τ) ↦{fullShare} I.wo))

/-- The accumulator with its first `n` parts in. -/
def building (c : Dev nD) (n : ℕ) : sProp 𝕄 := iprop(∃ f, ⌜Agree I c n f⌝ ∗ (accM.view.loc (c : Thread nD τ) ↦{fullShare} f))

/-- Storing one part: if what is stored belongs there, one more part is in. -/
theorem wp_put (c : Dev nD) (n : ℕ) (r : Rect S2x256x384) (hr hs) (w : r.shape.Idx → Elt F .f32)
    (hw : ∀ f, Agree I c n f → Agree I c (n + 1) ((accM.access r).write (Elt F) f w Finset.univ))
    {Q : PUnit → sProp 𝕄} {kont : Pg F} :
    building I c n
      ⊢ iprop((building I c (n + 1) -∗ wp frame (wpE (defs₀ (F := F)) 𝒱₀ (c : Thread nD τ) none) Set.univ kont Q)
          -∗ wp frame (wpE (defs₀ (F := F)) 𝒱₀ (c : Thread nD τ) none) Set.univ (putP r hr hs w kont) Q) := by
  unfold building
  iintro ⟨%f, %hf, H⟩ Hk
  iapply (wp_load 𝒱₀ (c : Thread nD τ) none Set.univ (m := accM) (S := Finset.univ) (Finset.subset_univ _)) $$ H; iintro H
  iapply (wp_store 𝒱₀ (c : Thread nD τ) none Set.univ (m := accM) (r := r) (Mk := Finset.univ) (S := Finset.univ) (Finset.subset_univ _)) $$ H; iintro H
  iapply Hk
  iexists ((accM.access r).write (Elt F) f w Finset.univ)
  isplitr
  · ipureintro; exact hw f hf
  · iexact H

/-- One head: two more parts are in. -/
theorem wp_head (c : Dev nD) (b : Fin 2) (h : Fin 4) {Q : PUnit → sProp 𝕄} {kont : Pg F} :
    iprop(insPts I c ∗ building I c (8 * b.val + 2 * h.val))
      ⊢ iprop((insPts I c ∗ building I c (8 * b.val + 2 * h.val + 1 + 1)
            -∗ wp frame (wpE (defs₀ (F := F)) 𝒱₀ (c : Thread nD τ) none) Set.univ kont Q)
          -∗ wp frame (wpE (defs₀ (F := F)) 𝒱₀ (c : Thread nD τ) none) Set.univ (headP (mask c) (qAt I b) b h kont) Q) := by
  unfold insPts headP
  iintro ⟨⟨Hx, Hwq, Hk, Hv, Hwo⟩, HA⟩ HK
  iapply (wp_load 𝒱₀ (c : Thread nD τ) none Set.univ (m := kM) (S := Finset.univ) (Finset.subset_univ _)) $$ Hk; iintro Hk
  iapply (wp_load 𝒱₀ (c : Thread nD τ) none Set.univ (m := vM) (S := Finset.univ) (Finset.subset_univ _)) $$ Hv; iintro Hv
  iapply (wp_put I c _ (ctxRect b h) _ _ _ (agree_ctx I c b h)) $$ HA; iintro HA
  iapply (wp_put I c _ (denRect b h) _ _ _ (agree_den I c b h)) $$ HA; iintro HA
  iapply HK
  isplitr [HA]
  · isplitl [Hx]; · iexact Hx
    isplitl [Hwq]; · iexact Hwq
    isplitl [Hk]; · iexact Hk
    isplitl [Hv]; · iexact Hv
    iexact Hwo
  · iexact HA

/-- One batch: its eight parts are in. -/
theorem wp_batch (c : Dev nD) (b : Fin 2) {Q : PUnit → sProp 𝕄} {kont : Pg F} :
    iprop(insPts I c ∗ building I c (8 * b.val))
      ⊢ iprop((insPts I c ∗ building I c (8 * b.val + 8)
            -∗ wp frame (wpE (defs₀ (F := F)) 𝒱₀ (c : Thread nD τ) none) Set.univ kont Q)
          -∗ wp frame (wpE (defs₀ (F := F)) 𝒱₀ (c : Thread nD τ) none) Set.univ (batchP (mask c) b kont) Q) := by
  unfold batchP
  iintro ⟨Hin, HA⟩ HK
  unfold insPts
  icases Hin with ⟨Hx, Hwq, Hk, Hv, Hwo⟩
  iapply (wp_load 𝒱₀ (c : Thread nD τ) none Set.univ (m := xM) (S := Finset.univ) (Finset.subset_univ _)) $$ Hx; iintro Hx
  iapply (wp_load 𝒱₀ (c : Thread nD τ) none Set.univ (m := wqM) (S := Finset.univ) (Finset.subset_univ _)) $$ Hwq; iintro Hwq
  ihave Hin : iprop(insPts I c) $$ [Hx Hwq Hk Hv Hwo]
  · unfold insPts
    isplitl [Hx]; · iexact Hx
    isplitl [Hwq]; · iexact Hwq
    isplitl [Hk]; · iexact Hk
    isplitl [Hv]; · iexact Hv
    iexact Hwo
  iapply (wp_head I c b 0) $$ [Hin HA]
  · isplitl [Hin]; · iexact Hin
    iexact HA
  iintro ⟨Hin, HA⟩
  iapply (wp_head I c b 1) $$ [Hin HA]
  · isplitl [Hin]; · iexact Hin
    iexact HA
  iintro ⟨Hin, HA⟩
  iapply (wp_head I c b 2) $$ [Hin HA]
  · isplitl [Hin]; · iexact Hin
    iexact HA
  iintro ⟨Hin, HA⟩
  iapply (wp_head I c b 3) $$ [Hin HA]
  · isplitl [Hin]; · iexact Hin
    iexact HA
  iintro ⟨Hin, HA⟩
  iapply HK
  unfold insPts
  isplitl [Hin]; · iexact Hin
  iexact HA

/-! ## The result -/

/-- Batch `b` of the result, out of the accumulated parts `f`. -/
def outAt (f : AccBuf F) (b : Fin 2) : FVec F S1x256x512 .f32 :=
  outV (accM.view.readAt (Elt F) (ctxRect b 0).toLoadRect f) (accM.view.readAt (Elt F) (colRect b 0).toLoadRect f)
    (accM.view.readAt (Elt F) (ctxRect b 1).toLoadRect f) (accM.view.readAt (Elt F) (colRect b 1).toLoadRect f)
    (accM.view.readAt (Elt F) (ctxRect b 2).toLoadRect f) (accM.view.readAt (Elt F) (colRect b 2).toLoadRect f)
    (accM.view.readAt (Elt F) (ctxRect b 3).toLoadRect f) (accM.view.readAt (Elt F) (colRect b 3).toLoadRect f)
    (woM.view.readAt (Elt F) woRect.toLoadRect I.wo)

/-- The result, out of the accumulated parts `f`. -/
def result (f : AccBuf F) : XBuf F := fun i =>
  outAt I f (⟨(i 0).val, (i 0).isLt⟩ : Fin 2)
    (ix3 (0 : Fin 1) (⟨(i 1).val, (i 1).isLt⟩ : Fin 256) (⟨(i 2).val, (i 2).isLt⟩ : Fin 512))

/-- The first `n` batches of the result are in. -/
def Done (f : AccBuf F) (n : ℕ) (g : XBuf F) : Prop := ∀ i, (i 0).val < n → g i = result I f i

theorem done_all (f : AccBuf F) (g : XBuf F) (hg : Done I f 2 g) : g = result I f := by
  funext i; exact hg i (i 0).isLt

theorem mem_out {b : Fin 2} {i : S2x256x512.Idx} : i ∈ (oM.access (xRect b)).set ↔ (i 0).val = b.val := by
  show i ∈ ((View.whole cc0_stg5_0).slice (xRect b)).set ↔ _
  rw [View.set_slice_whole, Rect.mem_set_unit]
  have l1 := (i 1).isLt; change (i 1).val < 256 at l1
  have l2 := (i 2).isLt; change (i 2).val < 512 at l2
  constructor
  · intro H
    have h0 := H 0
    simp [S1x256x512] at h0
    omega
  · intro H a
    match a with
    | ⟨0, _⟩ => show b.val ≤ (i 0).val ∧ (i 0).val < b.val + 1; omega
    | ⟨1, _⟩ => show 0 ≤ (i 1).val ∧ (i 1).val < 0 + 256; omega
    | ⟨2, _⟩ => show 0 ≤ (i 2).val ∧ (i 2).val < 0 + 512; omega

theorem done_step (f : AccBuf F) (b : Fin 2) (g : XBuf F) (hg : Done I f b.val g) :
    Done I f (b.val + 1) ((oM.access (xRect b)).write (Elt F) g (outAt I f b) Finset.univ) := by
  intro i hi
  by_cases h : i ∈ (oM.access (xRect b)).set
  · obtain ⟨x, -, rfl⟩ := Finset.mem_map.mp h
    rw [View.write_emb_of_mem _ _ (Finset.mem_univ x)]
    show outAt I f b x = result I f ((xRect b).emb x)
    have l0 := (x 0).isLt; change (x 0).val < 1 at l0
    have e0 : ((xRect b).emb x 0).val = b.val := by rw [Rect.emb_apply]; simp [S1x256x512]; omega
    have e1 : ((xRect b).emb x 1).val = (x 1).val := by rw [Rect.emb_apply]; simp
    have e2 : ((xRect b).emb x 2).val = (x 2).val := by rw [Rect.emb_apply]; simp
    unfold result
    rw [show (⟨((xRect b).emb x 0).val, ((xRect b).emb x 0).isLt⟩ : Fin 2) = b from Fin.ext e0]
    congr 1
    funext a
    match a with
    | ⟨0, _⟩ => exact Fin.ext (by show (x 0).val = 0; omega)
    | ⟨1, _⟩ => exact Fin.ext e1.symm
    | ⟨2, _⟩ => exact Fin.ext e2.symm
  · rw [View.write_of_not_mem _ _ _ h]
    have hne : (i 0).val ≠ b.val := fun he => h (mem_out.mpr he)
    exact hg i (by omega)

/-- The result's buffer with its first `n` batches in. -/
def outPts (c : Dev nD) (f : AccBuf F) (n : ℕ) : sProp 𝕄 :=
  iprop(∃ g, ⌜Done I f n g⌝ ∗ (oM.view.loc (c : Thread nD τ) ↦{fullShare} g))

/-- A batch's half of the accumulator. -/
def half (b : Fin 2) : Finset S2x256x384.Idx := Finset.univ.filter fun i => (i 0).val = b.val

theorem ctx_half (b : Fin 2) (h : Fin 4) : accM.view.setOn (ctxRect b h).toLoadRect.set ⊆ half b := by
  intro i hi
  have hi : i ∈ (accM.access (ctxRect b h)).set := by rw [show (accM.access (ctxRect b h)).set = _ from View.set_slice _ _]; exact hi
  refine Finset.mem_filter.mpr ⟨Finset.mem_univ _, ?_⟩
  change i ∈ ((View.whole cc0_scratch0).slice (ctxRect b h)).set at hi
  rw [View.set_slice_whole, Rect.mem_set_unit] at hi
  have h0 := hi 0
  simp [S1x256x64] at h0
  omega
theorem col_half (b : Fin 2) (h : Fin 4) : accM.view.setOn (colRect b h).toLoadRect.set ⊆ half b := by
  intro i hi
  have hi : i ∈ (accM.access (colRect b h)).set := by rw [show (accM.access (colRect b h)).set = _ from View.set_slice _ _]; exact hi
  refine Finset.mem_filter.mpr ⟨Finset.mem_univ _, ?_⟩
  change i ∈ ((View.whole cc0_scratch0).slice (colRect b h)).set at hi
  rw [View.set_slice_whole, Rect.mem_set_unit] at hi
  have h0 := hi 0
  simp [S1x256x1] at h0
  omega

/-- A batch's half of the accumulator is its two chunks. -/
theorem half_split (c : Dev nD) (b : Fin 2) (k k' : Fin 4) (hk : k.val = 2 * b.val) (hk' : k'.val = 2 * b.val + 1) (f : AccBuf F) :
    iprop(accPts c k f ∗ accPts c k' f) ⊣⊢ (accM.view.loc (c : Thread nD τ) ↦[half b]{fullShare} f : sProp 𝕄) := by
  have hd : Disjoint (accC k).view.set (accC k').view.set :=
    Finset.disjoint_left.mpr fun i h h' => by have := mem_acc.mp h; have := mem_acc.mp h'; omega
  have hu : half b = (accC k).view.set ∪ (accC k').view.set := by
    ext i
    have l1 := (i 1).isLt; change (i 1).val < 256 at l1
    rw [Finset.mem_union, mem_acc, mem_acc, half, Finset.mem_filter]
    constructor
    · rintro ⟨-, h⟩; omega
    · intro h; exact ⟨Finset.mem_univ _, by omega⟩
  rw [hu]
  exact (pointsTo_union hd).symm

/-- Reading one head's parts back. -/
theorem wp_get (c : Dev nD) (b : Fin 2) (h : Fin 4) (f : AccBuf F) {Q : PUnit → sProp 𝕄}
    {kont : Vec F S1x256x64 .f32 → Vec F S1x256x1 .f32 → Pg F} :
    (accM.view.loc (c : Thread nD τ) ↦[half b]{fullShare} f : sProp 𝕄)
      ⊢ iprop(((accM.view.loc (c : Thread nD τ) ↦[half b]{fullShare} f)
            -∗ wp frame (wpE (defs₀ (F := F)) 𝒱₀ (c : Thread nD τ) none) Set.univ
                (kont (accM.view.readAt (Elt F) (ctxRect b h).toLoadRect f) (accM.view.readAt (Elt F) (colRect b h).toLoadRect f)) Q)
          -∗ wp frame (wpE (defs₀ (F := F)) 𝒱₀ (c : Thread nD τ) none) Set.univ (getP b h kont) Q) := by
  iintro H Hk
  iapply (wp_load 𝒱₀ (c : Thread nD τ) none Set.univ (m := accM) (ctx_half b h)) $$ H; iintro H
  iapply (wp_load 𝒱₀ (c : Thread nD τ) none Set.univ (m := accM) (col_half b h)) $$ H; iintro H
  iapply Hk
  iexact H

/-- One batch of the result. -/
theorem wp_fin (c : Dev nD) (b : Fin 2) (f : AccBuf F) {Q : PUnit → sProp 𝕄} {kont : Pg F} :
    iprop(insPts I c ∗ (accM.view.loc (c : Thread nD τ) ↦[half b]{fullShare} f) ∗ outPts I c f b.val)
      ⊢ iprop((insPts I c ∗ (accM.view.loc (c : Thread nD τ) ↦[half b]{fullShare} f) ∗ outPts I c f (b.val + 1)
            -∗ wp frame (wpE (defs₀ (F := F)) 𝒱₀ (c : Thread nD τ) none) Set.univ kont Q)
          -∗ wp frame (wpE (defs₀ (F := F)) 𝒱₀ (c : Thread nD τ) none) Set.univ (finP b kont) Q) := by
  unfold finP insPts outPts
  iintro ⟨⟨Hx, Hwq, Hk, Hv, Hwo⟩, HA, %g, %hg, HO⟩ HK
  iapply (wp_get c b 0 f) $$ HA; iintro HA
  iapply (wp_get c b 1 f) $$ HA; iintro HA
  iapply (wp_get c b 2 f) $$ HA; iintro HA
  iapply (wp_get c b 3 f) $$ HA; iintro HA
  iapply (wp_load 𝒱₀ (c : Thread nD τ) none Set.univ (m := woM) (S := Finset.univ) (Finset.subset_univ _)) $$ Hwo; iintro Hwo
  iapply (wp_load 𝒱₀ (c : Thread nD τ) none Set.univ (m := oM) (S := Finset.univ) (Finset.subset_univ _)) $$ HO; iintro HO
  iapply (wp_store 𝒱₀ (c : Thread nD τ) none Set.univ (m := oM) (r := xRect b) (Mk := Finset.univ) (S := Finset.univ) (Finset.subset_univ _)) $$ HO; iintro HO
  iapply HK
  isplitl [Hx Hwq Hk Hv Hwo]
  · isplitl [Hx]; · iexact Hx
    isplitl [Hwq]; · iexact Hwq
    isplitl [Hk]; · iexact Hk
    isplitl [Hv]; · iexact Hv
    iexact Hwo
  isplitl [HA]; · iexact HA
  iexists ((oM.access (xRect b)).write (Elt F) g (outAt I f b) Finset.univ)
  isplitr
  · ipureintro; exact done_step I f b g hg
  · iexact HO

end Cert.KernelIdeal.Run

end
-- ==== Proof.RunKernelIdeal.Body.lean ====
/-
The kernel's body on one device, stepped through from what the launch gives it to what it leaves.
-/
module

public import proofs.«01_k».proof.Proof.RunKernelIdeal.Compute
public import proofs.«01_k».proof.Proof.Gen.KernelIdeal.Frame

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Steps

variable (A : Dev nD → AccBuf F) (K : Dev nD × Option Slot → ℕ)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem two (Φ : Fin 2 → sProp 𝕄) : bigSep Finset.univ Φ = iprop(Φ 0 ∗ Φ 1) :=
  bigSep_univ_eq_bigSepL [0, 1] (by decide) (by decide) Φ

/-! ## The handshake -/

/-- The landing chunks of round `r` are what the signal to the partner hands over. -/
theorem give (c : Dev nD) (r : Fin 2) (f : RcvBuf F) :
    iprop(records A K ∗ bigSep Finset.univ fun k : Fin 4 => rcvPts c r k f) ⊢ (sched A).payload (barCell (peer r c)) 0 (duty r) := by
  rw [payload_bar, peer_peer]
  unfold barPay
  refine (sep_mono_left (BI.bigSep_of_persistent (Finset.univ : Finset (Fin 4)) (records A K))).trans ?_
  rw [← bigSep_sep']
  refine bigSep_mono fun k _ => (show iprop(records A K ∗ rcvPts c r k f) ⊢ iprop((∃ f, rcvPts c r k f) ∗ reached ER (recvCell c r k) 0) from ?_)
  iintro ⟨#HR, H⟩
  isplitl [H]; · iexists f; iexact H
  iapply (reached_at A K (c, some (1, r, k))); iexact HR

/-- The partner's landing chunks, out of what its signal handed over. -/
theorem got (c : Dev nD) (r : Fin 2) :
    barPay (F := F) r c ⊢ (bigSep Finset.univ fun k : Fin 4 => iprop(∃ f, rcvPts c r k f) : sProp 𝕄) := by
  unfold barPay
  refine bigSep_mono fun k _ => (show iprop((∃ f, rcvPts (F := F) c r k f) ∗ reached ER (recvCell c r k) 0) ⊢ iprop(∃ f, rcvPts (F := F) c r k f) from ?_)
  iintro ⟨H, -⟩
  iexact H

/-- Both signals and the wait: this device's landing buffers go to its partners, theirs come here. -/
theorem wp_bar (c n₁ n₂ : Dev nD) (h₁ : n₁ = peer 0 c) (h₂ : n₂ = peer 1 c) (f : RcvBuf F) (W : Waits sig Unit)
    {Q : PUnit → sProp 𝕄} {kont : Pg F} :
    iprop(records A K ∗ levAts L lv ∗ atPos ER (barCell c) 0 ∅ 0 ∗ dutyTok ER (barCell (peer 0 c)) 0 (duty 0)
        ∗ dutyTok ER (barCell (peer 1 c)) 0 (duty 1) ∗ cred (tallyAt (barCell c) () 2) ∗ owes (c : Thread nD τ) (O₀ c) W
        ∗ (((c : Thread nD τ).loc cc0_scratch1) ↦{fullShare} f))
      ⊢ iprop((semVal (barCell c) 0 ∗ (bigSep Finset.univ fun k : Fin 4 => iprop(∃ f, rcvPts (F := F) (peer 0 c) 0 k f))
              ∗ (bigSep Finset.univ fun k : Fin 4 => iprop(∃ f, rcvPts (F := F) (peer 1 c) 1 k f)) ∗ debt (F := F) c 0
            -∗ wp frame (wpE (defs₀ (F := F)) 𝒱₀ (c : Thread nD τ) none) Set.univ kont Q)
          -∗ wp frame (wpE (defs₀ (F := F)) 𝒱₀ (c : Thread nD τ) none) Set.univ (barP n₁ n₂ kont) Q) := by
  subst h₁ h₂
  rw [rcv_split]
  unfold barP O₀
  iintro ⟨#HR, #Hlev, HaB, Ht0, Ht1, HcB, HO, Hr0, Hr1⟩ Hk
  ihave #Hi0 := (inv_at A K (peer 0 c, none)) $$ HR
  ihave #Hi1 := (inv_at A K (peer 1 c, none)) $$ HR
  ihave #Hi := (inv_at A K (c, none)) $$ HR
  ihave #Hre0 := (reached_at A K (peer 0 c, none)) $$ HR
  ihave #Hre1 := (reached_at A K (peer 1 c, none)) $$ HR
  iapply (Rounds.wp_signal 𝒱₀ ER (sched A) (c : Thread nD τ) none (dst := (peer 0 c : Thread nD τ)) (κ := K (peer 0 c, none))
      (d := duty 0) (by rw [duties_bar]; exact Finset.mem_univ _) ((amount_bar A (peer 0 c) (duty 0)).trans (by decide)) () (O₁ c) rfl)
    $$ [HO Ht0 Hr0]
  · isplitr; · iexact Hi0
    isplitl [HO]; · iexact HO
    isplitl [Ht0]; · iexact Ht0
    isplitl [Hr0]
    · iapply (give A K c 0 f)
      isplitr; · iexact HR
      iexact Hr0
    · iexact Hre0
  iintro HO
  unfold O₁
  iapply (Rounds.wp_signal 𝒱₀ ER (sched A) (c : Thread nD τ) none (dst := (peer 1 c : Thread nD τ)) (κ := K (peer 1 c, none))
      (d := duty 1) (by rw [duties_bar]; exact Finset.mem_univ _) ((amount_bar A (peer 1 c) (duty 1)).trans (by decide)) () (owed c 0) rfl)
    $$ [HO Ht1 Hr1]
  · isplitr; · iexact Hi1
    isplitl [HO]; · iexact HO
    isplitl [Ht1]; · iexact Ht1
    isplitl [Hr1]
    · iapply (give A K c 1 f)
      isplitr; · iexact HR
      iexact Hr1
    · iexact Hre1
  iintro HO
  iapply (Rounds.wp_wait_rest_token 𝒱₀ ER (sched A) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [HcB HO HaB]
  · isplitr; · iexact Hi
    isplitl [HcB]; · iexact HcB
    isplitl [HO]; · iexact HO
    isplitr
    · iapply (mayWait_owed (F := F) c (.reg barS) 0 (fun j _ _ => by show 1 < 2 + _; omega)); iexact Hlev
    iexact HaB
  iintro ⟨HO, HaB, -, Hpay⟩
  ihave Hp := (Entails.of_eq (rest_bar A c)) $$ Hpay
  icases Hp with ⟨Hp0, Hp1⟩
  imod (Rounds.cell_close ER (sched A) (Set.mem_univ (K (c, none))) (fun h => h) (R := 0 + 1) (duties_later A (barCell c))) $$ [HaB] with Hz
  · isplitr; · iexact Hi
    iexact HaB
  iapply Hk
  isplitl [Hz]; · iexact Hz
  isplitl [Hp0]; · iapply (got (F := F) (peer 0 c) 0); iexact Hp0
  isplitl [Hp1]; · iapply (got (F := F) (peer 1 c) 1); iexact Hp1
  unfold debt
  iexists _; iexact HO

/-! ## Transfers, and what is received -/

/-- One transfer. -/
theorem wp_sendP (c n : Dev nD) (r : Fin 2) (k : Fin 4) (hn : n = peer r c) (m : ℕ) (hm : m < 8) (hr : rOf m = r) (hk : kOf m = k)
    {Q : PUnit → sProp 𝕄} {kont : Pg F} :
    iprop(records A K ∗ idle (F := F) c r k ∗ accPts c k (accR A r c) ∗ (∃ f, rcvPts (F := F) (peer r c) r k f) ∗ debt (F := F) c m)
      ⊢ iprop((flying (F := F) c r k ∗ debt (F := F) c (m + 1) -∗ wp frame (wpE (defs₀ (F := F)) 𝒱₀ (c : Thread nD τ) none) Set.univ kont Q)
          -∗ wp frame (wpE (defs₀ (F := F)) 𝒱₀ (c : Thread nD τ) none) Set.univ (sendP r k n kont) Q) := by
  unfold sendP
  exact wp_send A K c n r k hn m hm hr hk (kont := fun _ => kont) (Q := Q)

/-- One chunk received and accumulated. -/
theorem wp_take (c : Dev nD) (r : Fin 2) (k : Fin 4) (m : ℕ) (hm : 4 * (r.val + 1) ≤ m) {Q : PUnit → sProp 𝕄} {kont : Pg F} :
    iprop(records A K ∗ levAts L lv ∗ flying (F := F) c r k ∗ debt (F := F) c m)
      ⊢ iprop((home (F := F) c r k ∗ rcvPts c r k (landed A c) ∗ accPts c k (accS A r c) ∗ debt (F := F) c m
            -∗ wp frame (wpE (defs₀ (F := F)) 𝒱₀ (c : Thread nD τ) none) Set.univ kont Q)
          -∗ wp frame (wpE (defs₀ (F := F)) 𝒱₀ (c : Thread nD τ) none) Set.univ (takeP r k kont) Q) := by
  unfold takeP
  iintro ⟨#HR, #Hlev, Hf, Hd⟩ Hk
  iapply (wp_sent A K c r k m) $$ [Hf Hd]
  · isplitr; · iexact HR
    isplitr; · iexact Hlev
    isplitl [Hf] <;> iassumption
  iintro ⟨Hs, Ha, Hd⟩
  iapply (wp_recv A K c r k m hm) $$ [Hs Hd]
  · isplitr; · iexact HR
    isplitr; · iexact Hlev
    isplitl [Hs] <;> iassumption
  iintro ⟨Hh, Hr, Hd⟩
  iapply (wp_add A c r k) $$ [Ha Hr]
  · isplitl [Ha] <;> iassumption
  iintro ⟨Ha, Hr⟩
  iapply Hk
  isplitl [Hh]; · iexact Hh
  isplitl [Hr]; · iexact Hr
  isplitl [Ha] <;> iassumption

/-- A chunk of round 0, received, accumulated and sent on in round 1. -/
theorem wp_pass (c n : Dev nD) (k : Fin 4) (hn : n = peer 1 c) (m : ℕ) (hm : m = 4 + k.val) {Q : PUnit → sProp 𝕄} {kont : Pg F} :
    iprop(records A K ∗ levAts L lv ∗ flying (F := F) c 0 k ∗ idle (F := F) c 1 k ∗ (∃ f, rcvPts (F := F) (peer 1 c) 1 k f) ∗ debt (F := F) c m)
      ⊢ iprop((home (F := F) c 0 k ∗ rcvPts c 0 k (landed A c) ∗ flying (F := F) c 1 k ∗ debt (F := F) c (m + 1)
            -∗ wp frame (wpE (defs₀ (F := F)) 𝒱₀ (c : Thread nD τ) none) Set.univ kont Q)
          -∗ wp frame (wpE (defs₀ (F := F)) 𝒱₀ (c : Thread nD τ) none) Set.univ (takeP 0 k (sendP 1 k n kont)) Q) := by
  subst hm
  iintro ⟨#HR, #Hlev, Hf, Hi, Hp, Hd⟩ Hk
  iapply (wp_take A K c 0 k (4 + k.val) (by simp)) $$ [Hf Hd]
  · isplitr; · iexact HR
    isplitr; · iexact Hlev
    isplitl [Hf] <;> iassumption
  iintro ⟨Hh, Hr, Ha, Hd⟩
  rw [accS_zero]
  iapply (wp_sendP A K c n 1 k hn (4 + k.val) (by omega)
    (Fin.ext (by simp only [Fin.val_ofNat]; show (4 + k.val) / 4 % 2 = 1; omega))
    (Fin.ext (by simp only [Fin.val_ofNat]; omega))) $$ [Hi Ha Hp Hd]
  · isplitr; · iexact HR
    isplitl [Hi]; · iexact Hi
    isplitl [Ha]; · iexact Ha
    isplitl [Hp] <;> iassumption
  iintro ⟨Hf, Hd⟩
  iapply Hk
  isplitl [Hh]; · iexact Hh
  isplitl [Hr]; · iexact Hr
  isplitl [Hf] <;> iassumption

/-- One batch of the result: its two chunks of round 1 received and accumulated, its heads' quotients multiplied out. -/
theorem wp_close (I : Ins F) (c : Dev nD) (b : Fin 2) (k k' : Fin 4) (hk : k.val = 2 * b.val) (hk' : k'.val = 2 * b.val + 1)
    {Q : PUnit → sProp 𝕄} {kont : Pg F} :
    iprop(records A K ∗ levAts L lv ∗ flying (F := F) c 1 k ∗ flying (F := F) c 1 k' ∗ insPts I c ∗ outPts I c (accS A 1 c) b.val ∗ debt (F := F) c 8)
      ⊢ iprop((home (F := F) c 1 k ∗ home (F := F) c 1 k' ∗ rcvPts c 1 k (landed A c) ∗ rcvPts c 1 k' (landed A c)
              ∗ accPts c k (accS A 1 c) ∗ accPts c k' (accS A 1 c) ∗ insPts I c ∗ outPts I c (accS A 1 c) (b.val + 1) ∗ debt (F := F) c 8
            -∗ wp frame (wpE (defs₀ (F := F)) 𝒱₀ (c : Thread nD τ) none) Set.univ kont Q)
          -∗ wp frame (wpE (defs₀ (F := F)) 𝒱₀ (c : Thread nD τ) none) Set.univ (takeP 1 k (takeP 1 k' (finP b kont))) Q) := by
  iintro ⟨#HR, #Hlev, Hf, Hf', Hin, Hout, Hd⟩ Hk
  iapply (wp_take A K c 1 k 8 (by decide)) $$ [Hf Hd]
  · isplitr; · iexact HR
    isplitr; · iexact Hlev
    isplitl [Hf] <;> iassumption
  iintro ⟨Hh, Hr, Ha, Hd⟩
  iapply (wp_take A K c 1 k' 8 (by decide)) $$ [Hf' Hd]
  · isplitr; · iexact HR
    isplitr; · iexact Hlev
    isplitl [Hf'] <;> iassumption
  iintro ⟨Hh', Hr', Ha', Hd⟩
  ihave HA := (half_split c b k k' hk hk' (accS A 1 c)).1 $$ [Ha Ha']
  · isplitl [Ha] <;> iassumption
  iapply (wp_fin I c b (accS A 1 c)) $$ [Hin HA Hout]
  · isplitl [Hin]; · iexact Hin
    isplitl [HA] <;> iassumption
  iintro ⟨Hin, HA, Hout⟩
  ihave HA' := (half_split c b k k' hk hk' (accS A 1 c)).2 $$ HA
  icases HA' with ⟨Ha, Ha'⟩
  iapply Hk
  isplitl [Hh]; · iexact Hh
  isplitl [Hh']; · iexact Hh'
  isplitl [Hr]; · iexact Hr
  isplitl [Hr']; · iexact Hr'
  isplitl [Ha]; · iexact Ha
  isplitl [Ha']; · iexact Ha'
  isplitl [Hin]; · iexact Hin
  isplitl [Hout] <;> iassumption

end Steps

end Cert.KernelIdeal.Run

end
-- ==== Proof.RunKernelIdeal.Whole.lean ====
/-
The whole body on one device, and the pipeline's obligation for it.
-/
module

public import proofs.«01_k».proof.Proof.RunKernelIdeal.Body

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- The inputs of device `c`, as its pipeline brings them in. -/
def ins (c : Dev nD) : Ins F where
  x := (win0_0.blk (0 : Fin 1)).view.read (Elt F) (m ((c : Thread nD τ).loc main_arg0))
  wq := (win0_1.blk (0 : Fin 1)).view.read (Elt F) (m ((c : Thread nD τ).loc main_arg1))
  k := (win0_2.blk (0 : Fin 1)).view.read (Elt F) (m ((c : Thread nD τ).loc main_arg2))
  v := (win0_3.blk (0 : Fin 1)).view.read (Elt F) (m ((c : Thread nD τ).loc main_arg3))
  wo := (win0_4.blk (0 : Fin 1)).view.read (Elt F) (m ((c : Thread nD τ).loc main_arg4))

/-- The accumulator of device `c` when the exchange begins. -/
def acc0 (c : Dev nD) : AccBuf F := tiles (ins m c) c
/-- The result of device `c`. -/
def out (c : Dev nD) : XBuf F := result (ins m c) (accS (acc0 m) 1 c)

/-! ## What the body is given, and what it leaves -/

/-- A transfer's part of the ghost state, but for the credit of what will land. -/
def still (c : Dev nD) (x : Fin 2 × Fin 4) : sProp 𝕄 :=
  iprop(atPos ER (sendCell c x.1 x.2) 0 ∅ 0 ∗ atPos ER (recvCell c x.1 x.2) 0 ∅ 0 ∗ dutyTok ER (sendCell c x.1 x.2) 0 false
    ∗ dutyTok ER (recvCell (peer x.1 c) x.1 x.2) 0 false)
/-- The credit of what will land. -/
def due1 (c : Dev nD) (x : Fin 2 × Fin 4) : sProp 𝕄 := cred (tallyAt (recvCell c x.1 x.2) () N)

/-- Device `c`'s ghost state, the cells' invariants under the names `K`. -/
def ghost (K : Dev nD × Option Slot → ℕ) (c : Dev nD) : sProp 𝕄 :=
  iprop(records (acc0 m) K ∗ (atPos ER (barCell c) 0 ∅ 0 ∗ dutyTok ER (barCell (peer 0 c)) 0 (duty 0)
    ∗ dutyTok ER (barCell (peer 1 c)) 0 (duty 1)) ∗ bigSep Finset.univ fun x => still (F := F) c x)

/-- What the body of device `c` starts from. -/
def start (c : Dev nD) : sProp 𝕄 :=
  iprop((∃ K, ghost m K c) ∗ cred (tallyAt (barCell c) () 2) ∗ (bigSep Finset.univ fun x => due1 (F := F) c x) ∗ levAts L lv)

def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- What the body of device `c` leaves: its scratch at some contents, every semaphore of its own at zero, the barrier's too. -/
def Φ₁ (c : Dev nD) : sProp 𝕄 :=
  iprop(((∃ f, ((c : Thread nD τ).loc cc0_scratch0) ↦{fullShare} f) ∗ (∃ f, ((c : Thread nD τ).loc cc0_scratch1) ↦{fullShare} f))
    ∗ (bigSep Finset.univ fun x : Fin 2 × Fin 4 => home (F := F) c x.1 x.2) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => out m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole buffer's share, as the pipeline states it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Buffer `b` of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(Φ₁ c ∗ (dats m 0 c).owesAt () t0_0.succ ∗ stg c cc0_stg0_0 (ins m c).x ∗ stg c cc0_stg1_0 (ins m c).wq
    ∗ stg c cc0_stg2_0 (ins m c).k ∗ stg c cc0_stg3_0 (ins m c).v ∗ stg c cc0_stg4_0 (ins m c).wo ∗ stg c cc0_stg5_0 (out m c))

/-- Every transfer's part with the credit of what will land, round by round. -/
theorem idles (c : Dev nD) :
    iprop((bigSep Finset.univ fun x => still (F := F) c x) ∗ bigSep Finset.univ fun x => due1 (F := F) c x)
      ⊢ iprop((bigSep Finset.univ fun k : Fin 4 => idle (F := F) c 0 k) ∗ bigSep Finset.univ fun k : Fin 4 => idle (F := F) c 1 k) := by
  rw [← bigSep_sep', bigSep_univ_prod (fun x : Fin 2 × Fin 4 => iprop(still (F := F) c x ∗ due1 (F := F) c x)), two]
  have h : ∀ r k, iprop(still (F := F) c (r, k) ∗ due1 (F := F) c (r, k)) ⊢ idle (F := F) c r k := fun r k => by
    unfold still due1 idle
    iintro ⟨⟨H1, H2, H3, H4⟩, H5⟩
    isplitl [H1]; · iexact H1
    isplitl [H2]; · iexact H2
    isplitl [H3]; · iexact H3
    isplitl [H4] <;> iassumption
  exact BI.sep_mono (bigSep_mono fun k _ => h 0 k) (bigSep_mono fun k _ => h 1 k)

set_option maxHeartbeats 1600000 in
/-- The body, stepped through piece by piece. -/
theorem sound_body (c : Dev nD) :
    bodyPre m c ⊢ wp frame (wpE (defs₀ (F := F)) 𝒱₀ (c : Thread nD τ) none) Set.univ bodyN (fun _ => bodyPost m c) := by
  unfold bodyPre Φ₀ start
  iintro ⟨⟨⟨⟨%K, Hg⟩, HcB, Hdue, #Hlev⟩, ⟨%fa, Hacc⟩, ⟨%fr, Hrcv⟩⟩, Ho, ⟨%d0, %g0, %h0, H0⟩, ⟨%d1, %g1, %h1, H1⟩, ⟨%d2, %g2, %h2, H2⟩,
    ⟨%d3, %g3, %h3, H3⟩, ⟨%d4, %g4, %h4, H4⟩, ⟨%d5, %g5, %h5, H5⟩⟩
  have e0 : g0 = (ins m c).x := by rw [h0]; unfold Dat.before; rw [if_pos (fetch0_0 t0_0)]; rfl
  have e1 : g1 = (ins m c).wq := by rw [h1]; unfold Dat.before; rw [if_pos (fetch0_1 t0_0)]; rfl
  have e2 : g2 = (ins m c).k := by rw [h2]; unfold Dat.before; rw [if_pos (fetch0_2 t0_0)]; rfl
  have e3 : g3 = (ins m c).v := by rw [h3]; unfold Dat.before; rw [if_pos (fetch0_3 t0_0)]; rfl
  have e4 : g4 = (ins m c).wo := by rw [h4]; unfold Dat.before; rw [if_pos (fetch0_4 t0_0)]; rfl
  subst e0 e1 e2 e3 e4
  unfold ghost
  icases Hg with ⟨#HR, ⟨HaB, Ht0, Ht1⟩, Hst⟩
  ihave Hid := (idles (F := F) c) $$ [Hst Hdue]
  · isplitl [Hst] <;> iassumption
  rw [four, four]
  icases Hid with ⟨⟨Hi00, Hi01, Hi02, Hi03⟩, Hi10, Hi11, Hi12, Hi13⟩
  unfold Dat.owesAt Pipeline.owesWithin
  icases Ho with ⟨%W, %hW, HO⟩
  rw [show (dats m 0 c).owed t0_0.castSucc = O₀ c from rfl]
  ihave Hin : iprop(insPts (ins m c) c) $$ [H0 H1 H2 H3 H4]
  · unfold insPts
    isplitl [H0]; · iexact H0
    isplitl [H1]; · iexact H1
    isplitl [H2]; · iexact H2
    isplitl [H3]; · iexact H3
    iexact H4
  ihave HA : iprop(building (ins m c) c 0) $$ [Hacc]
  · unfold building
    iexists fa
    isplitr; · ipureintro; exact fun i hi => absurd hi (Nat.not_lt_zero _)
    iexact Hacc
  ihave Hout : iprop(outPts (ins m c) c (accS (acc0 m) 1 c) 0) $$ [H5]
  · unfold outPts
    iexists g5
    isplitr; · ipureintro; exact fun i hi => absurd hi (Nat.not_lt_zero _)
    iexact H5
  unfold bodyN
  rw [wp_deviceId]
  -- the heads of both batches, into the accumulator
  iapply (wp_batch (ins m c) c 0) $$ [Hin HA]
  · isplitl [Hin] <;> iassumption
  iintro ⟨Hin, HA⟩
  iapply (wp_batch (ins m c) c 1) $$ [Hin HA]
  · isplitl [Hin] <;> iassumption
  iintro ⟨Hin, HA⟩
  ihave Hacc : iprop(((c : Thread nD τ).loc cc0_scratch0) ↦{fullShare} acc0 m c) $$ [HA]
  · unfold building
    icases HA with ⟨%f, %hf, HA⟩
    have hf' := agree_all (ins m c) c f hf
    subst hf'
    iexact HA
  ihave Hacc := (Entails.of_eq ((acc_split c (acc0 m c)).trans (four _))) $$ Hacc
  icases Hacc with ⟨Ha0, Ha1, Ha2, Ha3⟩
  -- the handshake
  iapply (wp_bar (acc0 m) K c _ _ (dev1_eq c) (dev2_eq c) fr W) $$ [HaB Ht0 Ht1 HcB HO Hrcv]
  · isplitr; · iexact HR
    isplitr; · iexact Hlev
    isplitl [HaB]; · iexact HaB
    isplitl [Ht0]; · iexact Ht0
    isplitl [Ht1]; · iexact Ht1
    isplitl [HcB]; · iexact HcB
    isplitl [HO] <;> iassumption
  rw [four, four]
  iintro ⟨HzB, ⟨Hp00, Hp01, Hp02, Hp03⟩, ⟨Hp10, Hp11, Hp12, Hp13⟩, Hd⟩
  -- round 0's transfers
  iapply (wp_sendP (acc0 m) K c _ 0 0 (dev3_eq c) 0 (by decide) rfl rfl) $$ [Hi00 Ha0 Hp00 Hd]
  · isplitr; · iexact HR
    isplitl [Hi00]; · iexact Hi00
    isplitl [Ha0]; · iexact Ha0
    isplitl [Hp00] <;> iassumption
  iintro ⟨Hf00, Hd⟩
  iapply (wp_sendP (acc0 m) K c _ 0 1 (dev4_eq c) 1 (by decide) rfl rfl) $$ [Hi01 Ha1 Hp01 Hd]
  · isplitr; · iexact HR
    isplitl [Hi01]; · iexact Hi01
    isplitl [Ha1]; · iexact Ha1
    isplitl [Hp01] <;> iassumption
  iintro ⟨Hf01, Hd⟩
  iapply (wp_sendP (acc0 m) K c _ 0 2 (dev5_eq c) 2 (by decide) rfl rfl) $$ [Hi02 Ha2 Hp02 Hd]
  · isplitr; · iexact HR
    isplitl [Hi02]; · iexact Hi02
    isplitl [Ha2]; · iexact Ha2
    isplitl [Hp02] <;> iassumption
  iintro ⟨Hf02, Hd⟩
  iapply (wp_sendP (acc0 m) K c _ 0 3 (dev6_eq c) 3 (by decide) rfl rfl) $$ [Hi03 Ha3 Hp03 Hd]
  · isplitr; · iexact HR
    isplitl [Hi03]; · iexact Hi03
    isplitl [Ha3]; · iexact Ha3
    isplitl [Hp03] <;> iassumption
  iintro ⟨Hf03, Hd⟩
  -- round 0's chunks received, accumulated and sent on
  iapply (wp_pass (acc0 m) K c _ 0 (dev7_eq c) 4 rfl) $$ [Hf00 Hi10 Hp10 Hd]
  · isplitr; · iexact HR
    isplitr; · iexact Hlev
    isplitl [Hf00]; · iexact Hf00
    isplitl [Hi10]; · iexact Hi10
    isplitl [Hp10]; · iexact Hp10
    iexact Hd
  iintro ⟨Hh00, Hr00, Hf10, Hd⟩
  iapply (wp_pass (acc0 m) K c _ 1 (dev8_eq c) 5 rfl) $$ [Hf01 Hi11 Hp11 Hd]
  · isplitr; · iexact HR
    isplitr; · iexact Hlev
    isplitl [Hf01]; · iexact Hf01
    isplitl [Hi11]; · iexact Hi11
    isplitl [Hp11]; · iexact Hp11
    iexact Hd
  iintro ⟨Hh01, Hr01, Hf11, Hd⟩
  iapply (wp_pass (acc0 m) K c _ 2 (dev9_eq c) 6 rfl) $$ [Hf02 Hi12 Hp12 Hd]
  · isplitr; · iexact HR
    isplitr; · iexact Hlev
    isplitl [Hf02]; · iexact Hf02
    isplitl [Hi12]; · iexact Hi12
    isplitl [Hp12]; · iexact Hp12
    iexact Hd
  iintro ⟨Hh02, Hr02, Hf12, Hd⟩
  iapply (wp_pass (acc0 m) K c _ 3 (dev10_eq c) 7 rfl) $$ [Hf03 Hi13 Hp13 Hd]
  · isplitr; · iexact HR
    isplitr; · iexact Hlev
    isplitl [Hf03]; · iexact Hf03
    isplitl [Hi13]; · iexact Hi13
    isplitl [Hp13]; · iexact Hp13
    iexact Hd
  iintro ⟨Hh03, Hr03, Hf13, Hd⟩
  -- round 1's chunks received and accumulated, the result
  iapply (wp_close (acc0 m) K (ins m c) c 0 0 1 rfl rfl) $$ [Hf10 Hf11 Hin Hout Hd]
  · isplitr; · iexact HR
    isplitr; · iexact Hlev
    isplitl [Hf10]; · iexact Hf10
    isplitl [Hf11]; · iexact Hf11
    isplitl [Hin]; · iexact Hin
    isplitl [Hout]; · iexact Hout
    iexact Hd
  iintro ⟨Hh10, Hh11, Hr10, Hr11, Ha0, Ha1, Hin, Hout, Hd⟩
  iapply (wp_close (acc0 m) K (ins m c) c 1 2 3 rfl rfl) $$ [Hf12 Hf13 Hin Hout Hd]
  · isplitr; · iexact HR
    isplitr; · iexact Hlev
    isplitl [Hf12]; · iexact Hf12
    isplitl [Hf13]; · iexact Hf13
    isplitl [Hin]; · iexact Hin
    isplitl [Hout]; · iexact Hout
    iexact Hd
  iintro ⟨Hh12, Hh13, Hr12, Hr13, Ha2, Ha3, Hin, Hout, Hd⟩
  rw [wp_ret]; imodintro
  unfold bodyPost Φ₁ Dat.owesAt Pipeline.owesWithin
  rw [show (dats m 0 c).owed t0_0.succ = 0 from rfl]
  isplitl [Ha0 Ha1 Ha2 Ha3 Hr00 Hr01 Hr02 Hr03 Hr10 Hr11 Hr12 Hr13 Hh00 Hh01 Hh02 Hh03 Hh10 Hh11 Hh12 Hh13 HzB]
  · isplitl [Ha0 Ha1 Ha2 Ha3 Hr00 Hr01 Hr02 Hr03 Hr10 Hr11 Hr12 Hr13]
    · isplitl [Ha0 Ha1 Ha2 Ha3]
      · iexists (accS (acc0 m) 1 c)
        rw [acc_split, four]
        isplitl [Ha0]; · iexact Ha0
        isplitl [Ha1]; · iexact Ha1
        isplitl [Ha2] <;> iassumption
      · iapply (rcv_join (acc0 m) c)
        rw [four, four]
        isplitl [Hr00 Hr01 Hr02 Hr03]
        · isplitl [Hr00]; · iexact Hr00
          isplitl [Hr01]; · iexact Hr01
          isplitl [Hr02] <;> iassumption
        · isplitl [Hr10]; · iexact Hr10
          isplitl [Hr11]; · iexact Hr11
          isplitl [Hr12] <;> iassumption
    isplitr [HzB]
    · rw [bigSep_univ_prod (fun x : Fin 2 × Fin 4 => home (F := F) c x.1 x.2), two, four, four]
      isplitl [Hh00 Hh01 Hh02 Hh03]
      · isplitl [Hh00]; · iexact Hh00
        isplitl [Hh01]; · iexact Hh01
        isplitl [Hh02] <;> iassumption
      · isplitl [Hh10]; · iexact Hh10
        isplitl [Hh11]; · iexact Hh11
        isplitl [Hh12] <;> iassumption
    · iexact HzB
  isplitl [Hd]
  · unfold debt
    rw [owed_done]
    icases Hd with ⟨%W', HO⟩
    iexists W'
    isplitr; · ipureintro; exact fun _ _ => Or.inl trivial
    iexact HO
  unfold insPts outPts
  icases Hin with ⟨H0, H1, H2, H3, H4⟩
  icases Hout with ⟨%g, %hg, H5⟩
  have hg' := done_all (ins m c) _ g hg
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists g; isplitr; · (ipureintro; exact hg')
  iexact H5

set_option maxRecDepth 65536 in
/-- The pipeline's obligation for the body. -/
theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = _ from fun Φ => bigSep_W0 Φ,
    show ∀ Φ : Fin cfg0.W → sProp 𝕄, bigSep Finset.univ Φ = _ from fun Φ => bigSep_W0 Φ]
  simp only [owns_whole]
  show bodyPre m c ⊢ wp frame (wpE (defs₀ (F := F)) 𝒱₀ c none) Set.univ
    (cc0_body (F := F) xM (Memref.isWhole_whole _) wqM (Memref.isWhole_whole _) kM (Memref.isWhole_whole _)
      vM (Memref.isWhole_whole _) woM (Memref.isWhole_whole _) oM (Memref.isWhole_whole _) accM (Memref.isWhole_whole _)
      rcvM (Memref.isWhole_whole _) cc0_scratch2 cc0_scratch3) (fun _ => bodyPost m c)
  rw [body_norm]
  exact sound_body m c

end Cert.KernelIdeal.Run

end
-- ==== Proof.RunKernelIdeal.Launch.lean ====
/-
The launch of `KernelIdeal`: the cells and the duty tokens minted, dealt to the devices that pay them, the credit of
what each device waits for, and the run of @main on all devices.
-/
module

public import proofs.«01_k».proof.Proof.RunKernelIdeal.Whole
public import Idealize.ShloMosaic.Lib.Pipeline.ValueKit.Geometry
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Products over the cells of one device -/

/-- The sixteen own cells: the send cells beside the receive cells. -/
theorem over_slots (Φ : Slot → sProp 𝕄) :
    bigSep Finset.univ Φ
      = iprop((bigSep Finset.univ fun y : Fin 2 × Fin 4 => Φ (0, y)) ∗ bigSep Finset.univ fun y : Fin 2 × Fin 4 => Φ (1, y)) := by
  rw [bigSep_univ_prod, two]

theorem erase_none : (Finset.univ : Finset (Option Slot)).erase none = Finset.univ.map Function.Embedding.some := by decide

/-- All seventeen cells: the barrier's, the send cells, the receive cells. -/
theorem over_cells (Φ : Option Slot → sProp 𝕄) :
    bigSep Finset.univ Φ
      = iprop(Φ none ∗ (bigSep Finset.univ fun y : Fin 2 × Fin 4 => Φ (some (0, y))) ∗ bigSep Finset.univ fun y : Fin 2 × Fin 4 => Φ (some (1, y))) := by
  rw [bigSep_univ_at Φ none, erase_none, bigSep_map, over_slots]
  rfl

/-! ## Cells and tokens -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem osem_injective : Function.Injective (osem : Slot → SemLoc sig) := by decide

theorem kcell_injective : Function.Injective kcell := fun x y h =>
  Prod.ext (congrArg (fun g : GSem nD τ sig => g.1.1) h) (csem_injective (congrArg Prod.snd h))

/-- Every cell of every device. -/
def allCells : Finset (GSem nD τ sig) := Finset.univ.map ⟨kcell, kcell_injective⟩

/-- The duty tokens minted: a barrier cell's two, and each own cell's one. -/
abbrev tokOf (x : Dev nD × (Bool ⊕ Slot)) : GSem nD τ sig × ℕ × Bool := match x.2 with
  | .inl d => (barCell x.1, 0, d)
  | .inr s => (((x.1 : Thread nD τ), osem s), 0, false)

theorem osem_ne_bar (s : Slot) : osem s ≠ SemLoc.reg barS := by revert s; decide

theorem tokOf_injective : Function.Injective tokOf := by
  rintro ⟨c, d | s⟩ ⟨c', d' | s'⟩ h
  · have h1 : c = c' := congrArg (fun x : GSem nD τ sig × ℕ × Bool => x.1.1.1) h
    have h2 : d = d' := congrArg (fun x : GSem nD τ sig × ℕ × Bool => x.2.2) h
    rw [h1, h2]
  · exact absurd (congrArg (fun x : GSem nD τ sig × ℕ × Bool => x.1.2) h).symm (osem_ne_bar s')
  · exact absurd (congrArg (fun x : GSem nD τ sig × ℕ × Bool => x.1.2) h) (osem_ne_bar s)
  · have h1 : c = c' := congrArg (fun x : GSem nD τ sig × ℕ × Bool => x.1.1.1) h
    have h2 : s = s' := osem_injective (congrArg (fun x : GSem nD τ sig × ℕ × Bool => x.1.2) h)
    rw [h1, h2]

def allToks : Finset (GSem nD τ sig × ℕ × Bool) := Finset.univ.map ⟨tokOf, tokOf_injective⟩

/-- The ghost state at launch: the staging pipeline's, and every cell at round 0 with its tokens. -/
def u₀ : UU := (initOf (Pipeline.cells cfgs cellOf_inj) (Pipeline.launchToks cfgs cellOf_inj), initOf allCells allToks)

/-- The tokens of device `c`'s own cells. -/
def toks (c : Dev nD) : sProp 𝕄 :=
  iprop((dutyTok ER (barCell c) 0 (duty 0) ∗ dutyTok ER (barCell c) 0 (duty 1))
    ∗ (bigSep Finset.univ fun y : Fin 2 × Fin 4 => dutyTok ER (sendCell c y.1 y.2) 0 false)
    ∗ bigSep Finset.univ fun y : Fin 2 × Fin 4 => dutyTok ER (recvCell c y.1 y.2) 0 false)

/-- The tokens of the duties device `c` pays. -/
def payToks (c : Dev nD) : sProp 𝕄 :=
  iprop((dutyTok ER (barCell (peer 0 c)) 0 (duty 0) ∗ dutyTok ER (barCell (peer 1 c)) 0 (duty 1))
    ∗ (bigSep Finset.univ fun y : Fin 2 × Fin 4 => dutyTok ER (sendCell c y.1 y.2) 0 false)
    ∗ bigSep Finset.univ fun y : Fin 2 × Fin 4 => dutyTok ER (recvCell (peer y.1 c) y.1 y.2) 0 false)

/-- What the launch deals device `c`. -/
def G (c : Dev nD) : sProp 𝕄 :=
  iprop((bigSep Finset.univ fun k : Option Slot => roundState ER (sched (acc0 m)) (kcell (c, k)) 0)
    ∗ (bigSep Finset.univ fun k : Option Slot => iprop(atPos ER (kcell (c, k)) 0 ∅ 0 ∗ reached ER (kcell (c, k)) 0)) ∗ toks c)

/-- What device `c` begins with once the cells' invariants stand. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Option Slot => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, over_slots, bigSep_univ_eq_bigSepL [false, true] (by decide) (by decide), bigSepL_cons_cons, bigSepL_singleton]
    rfl
  iintro HX
  imod (Rounds.fund ER (sched (acc0 m)) allCells allToks) $$ HX with ⟨Hst, Hr, Hat, Htok⟩
  imodintro
  ihave Hst' := (Entails.of_eq (hX fun g => roundState ER (sched (acc0 m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants, and the tokens to their payers -/

theorem ownSems0_eq (c : Dev nD) :
    (Pipeline.ownSems0 (Ix := Unit) (Name := ℕ) (U := UU) (Lvl := ℕ) (Val := Elt F) (τ := τ) osem c : sProp 𝕄)
      = iprop((bigSep Finset.univ fun y : Fin 2 × Fin 4 => semVal (sendCell c y.1 y.2) 0)
          ∗ bigSep Finset.univ fun y : Fin 2 × Fin 4 => semVal (recvCell c y.1 y.2) 0) := by
  unfold Pipeline.ownSems0; rw [over_slots]
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Every counter of a device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Slot => semVal (kcell (c, k)) 0 : sProp 𝕄) := by
  rw [ownSems0_eq, unscopedSems0_eq, over_cells]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option Slot => iprop(∃ κ : ℕ, cellInv ER (sched (acc0 m)) κ (kcell (c, k))))
          ∗ (bigSep Finset.univ fun k : Option Slot => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Slot => semVal (kcell (c, k)) 0)
        ∗ bigSep Finset.univ fun k : Option Slot => roundState ER (sched (acc0 m)) (kcell (c, k)) 0)
      ⊢ (|={Set.univ}=> bigSep Finset.univ fun k : Option Slot => iprop(∃ κ : ℕ, cellInv ER (sched (acc0 m)) κ (kcell (c, k))) : sProp 𝕄) from by
        rw [← bigSep_sep']
        exact (bigSep_mono fun k _ => (Rounds.body_intro ER (sched (acc0 m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Device `c`'s positions in its own cells, and the tokens of the duties it pays. -/
def linear (c : Dev nD) : sProp 𝕄 :=
  iprop((bigSep Finset.univ fun k : Option Slot => atPos ER (kcell (c, k)) 0 ∅ 0) ∗ payToks c)

theorem ghost_intro (K : Dev nD × Option Slot → ℕ) (c : Dev nD) : iprop(records (acc0 m) K ∗ linear c) ⊢ G' m c := by
  unfold linear payToks G' ghost
  rw [over_cells]
  have hs : (bigSep Finset.univ fun x : Fin 2 × Fin 4 => still (F := F) c x)
      = iprop((bigSep Finset.univ fun y : Fin 2 × Fin 4 => atPos ER (sendCell c y.1 y.2) 0 ∅ 0)
        ∗ (bigSep Finset.univ fun y : Fin 2 × Fin 4 => atPos ER (recvCell c y.1 y.2) 0 ∅ 0)
        ∗ (bigSep Finset.univ fun y : Fin 2 × Fin 4 => dutyTok ER (sendCell c y.1 y.2) 0 false)
        ∗ bigSep Finset.univ fun y : Fin 2 × Fin 4 => dutyTok ER (recvCell (peer y.1 c) y.1 y.2) 0 false) := by
    unfold still
    rw [bigSep_sep', bigSep_sep', bigSep_sep']
  iintro ⟨HR, ⟨HaB, HaS, HaV⟩, ⟨Ht0, Ht1⟩, HtS, HtV⟩
  iexists K
  isplitl [HR]; · iexact HR
  isplitl [HaB Ht0 Ht1]
  · isplitl [HaB]; · iexact HaB
    isplitl [Ht0] <;> iassumption
  iapply (Entails.of_eq hs.symm)
  isplitl [HaS]; · iexact HaS
  isplitl [HaV]; · iexact HaV
  isplitl [HtS] <;> iassumption

/-- The tokens change hands: a barrier cell's go to the two partners, a receive cell's to its round's partner. -/
theorem toks_around : (bigSep Finset.univ fun c : Dev nD => (toks c : sProp 𝕄)) ⊢ bigSep Finset.univ fun c : Dev nD => payToks c := by
  unfold toks payToks
  simp only [bigSep_sep']
  rw [bigSep_univ_equiv (swap 0) (fun c : Dev nD => (dutyTok ER (barCell c) 0 (duty 0) : sProp 𝕄)),
    bigSep_univ_equiv (swap 1) (fun c : Dev nD => (dutyTok ER (barCell c) 0 (duty 1) : sProp 𝕄)),
    BI.bigSep_univ_comm (fun (c : Dev nD) (y : Fin 2 × Fin 4) => (dutyTok ER (recvCell c y.1 y.2) 0 false : sProp 𝕄)),
    bigSep_congr (s := Finset.univ) (fun (y : Fin 2 × Fin 4) _ =>
      bigSep_univ_equiv (swap y.1) (fun c : Dev nD => (dutyTok ER (recvCell c y.1 y.2) 0 false : sProp 𝕄))),
    ← BI.bigSep_univ_comm (fun (c : Dev nD) (y : Fin 2 × Fin 4) => (dutyTok ER (recvCell (swap y.1 c) y.1 y.2) 0 false : sProp 𝕄))]
  iintro H
  iexact H

/-- What is persistent goes to every summand. -/
theorem everywhere {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option Slot => iprop(∃ κ : ℕ, cellInv ER (sched (acc0 m)) κ (kcell (c, k))))
          ∗ (bigSep Finset.univ fun k : Option Slot => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option Slot => iprop(∃ κ : ℕ, cellInv ER (sched (acc0 m)) κ (kcell ck))),
    bigSep_congr (s := Finset.univ) (fun (c : Dev nD) _ => bigSep_sep' Finset.univ (fun k : Option Slot => (atPos ER (kcell (c, k)) 0 ∅ 0 : sProp 𝕄)) (fun k => reached ER (kcell (c, k)) 0)),
    bigSep_sep', ← bigSep_univ_prod (fun ck : Dev nD × Option Slot => (reached ER (kcell ck) 0 : sProp 𝕄))]
  iintro ⟨HI, ⟨Hat, #HR⟩, Htok⟩
  ihave HK := (BI.bigSep_exists_pi Finset.univ (fun (ck : Dev nD × Option Slot) (κ : ℕ) => (cellInv ER (sched (acc0 m)) κ (kcell ck) : sProp 𝕄))) $$ HI
  icases HK with ⟨%K, #HI⟩
  ihave Htk := (toks_around (F := F)) $$ Htok
  iapply (everywhere (R := records (acc0 m) K) fun c _ => ghost_intro m K c)
  isplitr
  · unfold records; isplitl; · iexact HI
    iexact HR
  · iapply (Entails.of_eq (bigSep_sep' Finset.univ (fun c : Dev nD => bigSep Finset.univ fun k : Option Slot => (atPos ER (kcell (c, k)) 0 ∅ 0 : sProp 𝕄)) payToks).symm)
    isplitl [Hat]; · iexact Hat
    iexact Htk

/-- The step that sets up all the devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- The eight transfers in the order they are issued, as (round, chunk). -/
theorem in_order (Φ : Fin 2 × Fin 4 → sProp 𝕄) :
    (bigSep (Finset.Ico 0 8) fun j => Φ (rOf j, kOf j)) = bigSep Finset.univ Φ := by
  rw [bigSep_eq_bigSepL_of_eq [0, 1, 2, 3, 4, 5, 6, 7] (by decide) (by decide),
    bigSep_univ_eq_bigSepL [(0, 0), (0, 1), (0, 2), (0, 3), (1, 0), (1, 1), (1, 2), (1, 3)] (by decide) (by decide)]
  rfl

theorem creds (c : Dev nD) :
    (Pipeline.launchCred O₀ c : sProp 𝕄) ⊢ iprop(cred (tallyAt (barCell c) () 2) ∗ bigSep Finset.univ fun x => due1 (F := F) c x) := by
  have e : O₀ = fun d => ((∑ j ∈ Finset.Ico 0 8, due d (rOf j) (kOf j)) + tallyAt (barCell (peer 1 d)) () 1)
      + tallyAt (barCell (peer 0 d)) () 1 := rfl
  have hb (r : Fin 2) := Pipeline.launchCred_tallyAt (Name := ℕ) (U := UU) (Lvl := ℕ) (Val := Elt F) (τ := τ)
    (SemLoc.reg barS) (peer r) (peer r) (peer_peer r) (peer_peer r) () 1 c
  have hr (j : ℕ) := Pipeline.launchCred_tallyAt (Name := ℕ) (U := UU) (Lvl := ℕ) (Val := Elt F) (τ := τ)
    (SemLoc.dma (recvS (rOf j) (kOf j))) (peer (rOf j)) (peer (rOf j)) (peer_peer _) (peer_peer _) () N c
  have hsum : tallyAt (barCell c) () 1 + tallyAt (barCell c) () 1 = (tallyAt (barCell c) () 2 : CellTallies nD τ sig Unit) :=
    by
    rw [show (2 : ℕ) = 1 + 1 from rfl, tallyAt_add]
  rw [e, Pipeline.launchCred_add, Pipeline.launchCred_add, Pipeline.launchCred_sum]
  iintro ⟨⟨Hr, H1⟩, H0⟩
  ihave H1 := (hb 1) $$ H1
  ihave H0 := (hb 0) $$ H0
  isplitl [H0 H1]
  · rw [← hsum]
    iapply (cred_add _ _).2
    isplitl [H1] <;> iassumption
  · iapply (Entails.of_eq (in_order (fun x => due1 (F := F) c x)))
    iapply (show (bigSep (Finset.Ico 0 8) fun j => (Pipeline.launchCred (fun d => due d (rOf j) (kOf j)) c : sProp 𝕄))
      ⊢ bigSep (Finset.Ico 0 8) fun j => due1 (F := F) c (rOf j, kOf j) from bigSep_mono fun j _ => hr j)
    iexact Hr

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ home
  rw [bigSep_sep']
  iintro ⟨Hr, Hh, HzB⟩
  isplitl [HzB]; · iexact HzB
  isplitl [Hh]; · iexact Hh
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The array of window `w` on device `c` after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every counter at zero: @main on the four devices terminates, every window's array as the
    pipeline leaves it and every counter back at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the run leaves -/

/-- The result array holds what the body computed. -/
theorem final_out (c : Dev nD) : finalA m c (5 : Fin 6) = out m c :=
  (dats m 0 c).arrAt_eq_of_after_last (5 : Fin 6) t0_0 (by decide +kernel) (out m c) fun j => rfl

/-- From any memory with every counter at zero, the run ends with each device's result array at the computed contents,
    its arguments as they were and every counter back at zero. -/
theorem run_value : θ_run defs (onTc (τ := τ) (main (F := F))) ⟨m, fun _ => 0, ρ⟩ (fun r =>
    (∀ c : Dev nD, r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r hr => ⟨fun c =>
    ⟨(hr.1 c (5 : Fin 6)).trans (final_out m c),
     (hr.1 c (0 : Fin 6)).trans ((dats m 0 c).arrAt_in (0 : Fin 6) rfl _),
     (hr.1 c (1 : Fin 6)).trans ((dats m 0 c).arrAt_in (1 : Fin 6) rfl _),
     (hr.1 c (2 : Fin 6)).trans ((dats m 0 c).arrAt_in (2 : Fin 6) rfl _),
     (hr.1 c (3 : Fin 6)).trans ((dats m 0 c).arrAt_in (3 : Fin 6) rfl _),
     (hr.1 c (4 : Fin 6)).trans ((dats m 0 c).arrAt_in (4 : Fin 6) rfl _)⟩, hr.2⟩) (run_main m ρ)

end Cert.KernelIdeal.Run

end
-- ==== Proof.Frames.lean ====
/-
The three programs run: they terminate, leave their arguments as they were and every counter at zero.
-/
module

public import proofs.«01_k».proof.Proof.RunKernel.Launch
public import proofs.«01_k».proof.Proof.RunKernelIdeal.Launch
public import proofs.«01_k».proof.Proof.Gen.ReferenceIdeal.Run
public import proofs.«01_k».proof.Defs
public import Idealize.ShloMosaic.Lib.Quiescent

@[expose] public section

noncomputable section

namespace Cert.Proof

open Idealize.ShloMosaic Idealize.SL.Sem

/-- The kernel's run. -/
theorem frame_kernel : Cert.quiescent_Kernel (hKernel := Cert.Kernel.Gen.facts) := fun m g _ =>
  (θ_run _ _ _).mono (fun r h => ⟨fun c => (h.1 c).2, h.2⟩) (Cert.Kernel.Run.run_value m g)

/-- The idealized kernel's run. -/
theorem frame_kernelIdeal : Cert.quiescent_KernelIdeal (hKernelIdeal := Cert.KernelIdeal.Gen.facts) := fun m g _ =>
  (θ_run _ _ _).mono (fun r h => ⟨fun c => (h.1 c).2, h.2⟩) (Cert.KernelIdeal.Run.run_value m g)

/-- The reference's run. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

end Cert.Proof

end
-- ==== Proof.Value.Parts.lean ====
/-
The kernel's pieces at an index, over the extended reals.
-/
module

public import proofs.«01_k».proof.Proof.RunKernelIdeal.Norm
public import Idealize.ShloMosaic.Lib.Pointwise

@[expose] public section

set_option maxRecDepth 16384

noncomputable section

namespace Cert.KernelIdeal.Run

open Cert.KernelIdeal Cert.KernelIdeal.Gen
open Idealize.ShloMosaic
open Idealize.ShloMosaic.TcCoe
open Idealize.SL.Sem

theorem projQ_at (x : Vec Ideal S1x256x512 .f32) (wq : Vec Ideal S512x256 .f32) (r c : Fin 256) :
    projQ x wq (ix2 r c) = ∑ l : Fin 512, x (ix3 0 r l) * wq (ix2 l c) := by
  pointwise [projQ]

theorem headW_at (msk : IVec S256x256 1) (q : FVec Ideal S256x256 .f32) (h : Fin 4) (kk : Vec Ideal S1x256x1x64 .f32) (r i : Fin 256) :
    headW msk q h kk (ix2 r i)
      = Scalar.select (msk (ix2 r i))
          (Ideal.exp ((∑ e : Fin 64, q (ix2 r ⟨64 * h.val + e.val, by omega⟩) * kk (ix4 0 i 0 e)) * Ideal.ofBits .f32 0x3E000000#32)) 0 := by
  pointwise [headW]

theorem headC_at (msk : IVec S256x256 1) (q : FVec Ideal S256x256 .f32) (h : Fin 4) (kk vv : Vec Ideal S1x256x1x64 .f32) (r : Fin 256) (e : Fin 64) :
    headC msk q h kk vv (ix3 0 r e) = ∑ i : Fin 256, headW msk q h kk (ix2 r i) * vv (ix4 0 i 0 e) := by
  pointwise [headC]

theorem headD_at (msk : IVec S256x256 1) (q : FVec Ideal S256x256 .f32) (h : Fin 4) (kk : Vec Ideal S1x256x1x64 .f32) (r : Fin 256) (e : Fin 32) :
    headD msk q h kk (ix3 0 r e) = ∑ i : Fin 256, headW msk q h kk (ix2 r i) := by
  pointwise [headD]

theorem quot_at (c : Vec Ideal S1x256x64 .f32) (d : Vec Ideal S1x256x1 .f32) (r : Fin 256) (e : Fin 64) :
    quot c d (ix2 r e) = Ideal.div (c (ix3 0 r e)) (d (ix3 0 r 0)) := by
  pointwise [quot]

theorem heads_at (q : Fin 4 → FVec Ideal S256x64 .f32) (r j : Fin 256) :
    concatenate S256x256 1 [⟨S256x64, q 0⟩, ⟨S256x64, q 1⟩, ⟨S256x64, q 2⟩, ⟨S256x64, q 3⟩]
      concatenates_S256x64_S256x64_S256x64_S256x64_S256x256_d1 (ix2 r j)
    = q (⟨j.val / 64, by omega⟩ : Fin 4) (ix2 r (⟨j.val % 64, by omega⟩ : Fin 64)) := by
  have key : ∀ (h h' : Fin 4) (e e' : Fin 64), h.val = h'.val → e.val = e'.val → q h (ix2 r e) = q h' (ix2 r e') := by
    intro h h' e e' eh ee
    obtain rfl := Fin.ext eh
    obtain rfl := Fin.ext ee
    rfl
  pointwise
  by_cases h0 : j.val < 64
  · rw [dif_pos h0]
    exact key _ _ _ _ (by show 0 = j.val / 64; omega) (by show j.val = j.val % 64; omega)
  rw [dif_neg h0]
  by_cases h1 : j.val - 64 < 64
  · rw [dif_pos h1]
    exact key _ _ _ _ (by show 1 = j.val / 64; omega) (by show j.val - 64 = j.val % 64; omega)
  rw [dif_neg h1]
  by_cases h2 : j.val - 64 - 64 < 64
  · rw [dif_pos h2]
    exact key _ _ _ _ (by show 2 = j.val / 64; omega) (by show j.val - 64 - 64 = j.val % 64; omega)
  rw [dif_neg h2]
  exact key _ _ _ _ (by show 3 = j.val / 64; omega) (by show j.val - 64 - 64 - 64 = j.val % 64; omega)

theorem outV_at (c : Fin 4 → Vec Ideal S1x256x64 .f32) (d : Fin 4 → Vec Ideal S1x256x1 .f32) (wo : Vec Ideal S256x512 .f32)
    (r : Fin 256) (o : Fin 512) :
    outV (c 0) (d 0) (c 1) (d 1) (c 2) (d 2) (c 3) (d 3) wo (ix3 0 r o)
      = ∑ j : Fin 256, Ideal.div (c (⟨j.val / 64, by omega⟩ : Fin 4) (ix3 0 r (⟨j.val % 64, by omega⟩ : Fin 64)))
          (d (⟨j.val / 64, by omega⟩ : Fin 4) (ix3 0 r 0)) * wo (ix2 j o) := by
  have hq := heads_at (fun h => quot (c h) (d h)) r
  unfold outV
  generalize concatenate S256x256 1 [⟨S256x64, quot (c 0) (d 0)⟩, ⟨S256x64, quot (c 1) (d 1)⟩, ⟨S256x64, quot (c 2) (d 2)⟩, ⟨S256x64, quot (c 3) (d 3)⟩]
      concatenates_S256x64_S256x64_S256x64_S256x64_S256x256_d1 = y at hq ⊢
  pointwise
  refine Finset.sum_congr rfl fun j _ => ?_
  rw [hq, quot_at]

/-! ## The mask -/

theorem rowBlk_at (r i : Fin 256) : k0_pay2 (ix2 r i) = BitVec.ofNat 32 (r.val / 64) := by
  pointwise [k0_pay2]
  revert r
  decide +kernel

/-- On device `d` the mask lets query `r` see key `i` when that key's block, counted over all devices, is at most the query's. -/
theorem mask_at (d : Dev nD) (r i : Fin 256) : mask d (ix2 r i) = 1#1 ↔ 4 * d.val + i.val / 64 ≤ r.val / 64 := by
  unfold mask
  generalize hv : k0_pay2 = v
  pointwise [k0_pay5, k0_pay3, k0_pay4]
  rw [← hv, rowBlk_at]
  obtain ⟨t, ht⟩ : ∃ t : Fin 4, t.val = r.val / 64 := ⟨⟨r.val / 64, by omega⟩, rfl⟩
  rw [← ht]
  clear ht hv v r
  revert d i t
  decide +kernel

end Cert.KernelIdeal.Run

end
-- ==== Proof.Value.Softmax.lean ====
/-
The identity behind the kernel, over the extended reals: one division of summed weighted values by summed weights is the
mixture by the softmax that first subtracts a maximum. The scores are real, at least one key is allowed, and the values
are anything.
-/
module

public import Idealize.ShloMosaic.PureOps.Ideal

@[expose] public section

noncomputable section

namespace Cert.Attn

open Idealize.ShloMosaic

/-- Dividing by a real that is not zero is multiplying by its inverse. -/
theorem div_real (x : EReal) {b : ℝ} (hb : b ≠ 0) : Ideal.div x (b : EReal) = x * ((b⁻¹ : ℝ) : EReal) := by
  unfold Ideal.div
  rw [if_neg (by exact_mod_cast hb), EReal.coe_inv]

/-- A real factor that is not negative moves into a finite sum. -/
theorem sum_mul_real {ι : Type} (t : Finset ι) (f : ι → EReal) {c : ℝ} (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih,
      EReal.right_distrib_of_nonneg_of_ne_top (by exact_mod_cast hc) (EReal.coe_ne_top c)]

/-- A finite sum of reals, read among the extended reals. -/
theorem sum_real {ι : Type} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

section Mix

variable {ι : Type} [Fintype ι] (A : ι → Prop) [DecidablePred A] (s : ι → ℝ)

/-- A key's weight: the exponential of its score, or zero where it is not allowed. -/
def weight (k : ι) : EReal := if A k then Ideal.exp (s k : EReal) else 0
/-- A key's score, or minus infinity where it is not allowed. -/
def masked (k : ι) : EReal := if A k then (s k : EReal) else ⊥
/-- The weight as a real. -/
def weightR (k : ι) : ℝ := if A k then Real.exp (s k) else 0

theorem weight_real (k : ι) : weight A s k = (weightR A s k : EReal) := by
  unfold weight weightR; split <;> simp

theorem exp_masked (M : ℝ) (k : ι) : Ideal.exp (masked A s k - (M : EReal)) = ((weightR A s k * Real.exp (-M) : ℝ) : EReal) := by
  unfold masked weightR
  split
  · rw [← EReal.coe_sub, Ideal.exp_coe, sub_eq_add_neg, Real.exp_add]
  · simp

theorem sum_weight_pos (h : ∃ k, A k) : 0 < ∑ k, weightR A s k := by
  obtain ⟨k, hk⟩ := h
  refine Finset.sum_pos' (fun i _ => ?_) ⟨k, Finset.mem_univ k, ?_⟩
  · unfold weightR; split
    · exact (Real.exp_pos _).le
    · exact le_rfl
  · unfold weightR; rw [if_pos hk]; exact Real.exp_pos _

/-- The largest masked score is a real. -/
theorem max_real (h : ∃ k, A k) : ∃ M : ℝ, Finset.univ.fold max (⊥ : EReal) (masked A s) = (M : EReal) := by
  obtain ⟨k, hk⟩ := h
  have hlt : Finset.univ.fold max (⊥ : EReal) (masked A s) < ⊤ := by
    rw [Finset.fold_max_lt]
    refine ⟨bot_lt_top, fun i _ => ?_⟩
    unfold masked; split
    · exact EReal.coe_lt_top _
    · exact bot_lt_top
  have hge : (s k : EReal) ≤ Finset.univ.fold max (⊥ : EReal) (masked A s) := by
    rw [Finset.le_fold_max]
    exact .inr ⟨k, Finset.mem_univ k, by unfold masked; rw [if_pos hk]⟩
  refine ⟨_, (EReal.coe_toReal hlt.ne fun hb => ?_).symm⟩
  rw [hb] at hge
  exact absurd hge (not_le.mpr (EReal.bot_lt_coe _))

/-- Summed weighted values over summed weights: the mixture by the softmax with its maximum subtracted. -/
theorem mix_eq_softmax (h : ∃ k, A k) (v : ι → EReal) :
    Ideal.div (∑ k, weight A s k * v k) (∑ k, weight A s k)
      = ∑ k, v k * Ideal.div (Ideal.exp (masked A s k - Finset.univ.fold max ⊥ (masked A s)))
          (∑ k', Ideal.exp (masked A s k' - Finset.univ.fold max ⊥ (masked A s))) := by
  obtain ⟨M, hM⟩ := max_real A s h
  have hW := sum_weight_pos A s h
  have hE := Real.exp_pos (-M)
  rw [hM]
  simp only [exp_masked, weight_real, sum_real]
  rw [← Finset.sum_mul, div_real _ hW.ne', sum_mul_real _ _ (inv_nonneg.mpr hW.le)]
  refine Finset.sum_congr rfl fun k _ => ?_
  rw [div_real _ (mul_pos hW hE).ne', ← EReal.coe_mul, mul_comm _ (v k), mul_assoc, ← EReal.coe_mul]
  congr 2
  field_simp

end Mix

end Cert.Attn

end
-- ==== Proof.Value.Kernel.lean ====
/-
The kernel's result at an index: what each device's heads put into the accumulator, their sum over the devices, and the
quotients times the output matrix.
-/
module

public import proofs.«01_k».proof.Proof.RunKernelIdeal.Whole
public import proofs.«01_k».proof.Proof.Value.Parts
public import proofs.«01_k».proof.Proof.Value.Softmax

@[expose] public section

set_option maxRecDepth 16384

noncomputable section

namespace Cert.KernelIdeal.Run

open Cert.KernelIdeal Cert.KernelIdeal.Gen
open Idealize.ShloMosaic
open Idealize.ShloMosaic.TcCoe
open Idealize.SL.Sem

/-! ## Reads -/

theorem x_read (f : XBuf Ideal) (b : Fin 2) (r : Fin 256) (l : Fin 512) :
    xM.view.readAt (Elt Ideal) (xRect b).toLoadRect f (ix3 0 r l) = f (ix3 b r l) := by
  refine congrArg f (funext fun a => Fin.ext ?_)
  match a with
  | ⟨0, _⟩ => show b.val + 1 * 0 = b.val; omega
  | ⟨1, _⟩ => show 0 + 1 * r.val = r.val; omega
  | ⟨2, _⟩ => show 0 + 1 * l.val = l.val; omega

theorem wq_read (f : WqBuf Ideal) (l : Fin 512) (j : Fin 256) :
    wqM.view.readAt (Elt Ideal) wqRect.toLoadRect f (ix2 l j) = f (ix2 l j) := by
  refine congrArg f (funext fun a => Fin.ext ?_)
  match a with
  | ⟨0, _⟩ => show 0 + 1 * l.val = l.val; omega
  | ⟨1, _⟩ => show 0 + 1 * j.val = j.val; omega

theorem wo_read (f : WoBuf Ideal) (j : Fin 256) (o : Fin 512) :
    woM.view.readAt (Elt Ideal) woRect.toLoadRect f (ix2 j o) = f (ix2 j o) := by
  refine congrArg f (funext fun a => Fin.ext ?_)
  match a with
  | ⟨0, _⟩ => show 0 + 1 * j.val = j.val; omega
  | ⟨1, _⟩ => show 0 + 1 * o.val = o.val; omega

theorem k_read (f : KvBuf Ideal) (b : Fin 2) (h : Fin 4) (i : Fin 256) (e : Fin 64) :
    kM.view.readAt (Elt Ideal) (kvRect b h).toLoadRect f (ix4 0 i 0 e) = f (ix4 b i h e) := by
  refine congrArg f (funext fun a => Fin.ext ?_)
  match a with
  | ⟨0, _⟩ => show b.val + 1 * 0 = b.val; omega
  | ⟨1, _⟩ => show 0 + 1 * i.val = i.val; omega
  | ⟨2, _⟩ => show h.val + 1 * 0 = h.val; omega
  | ⟨3, _⟩ => show 0 + 1 * e.val = e.val; omega

theorem v_read (f : KvBuf Ideal) (b : Fin 2) (h : Fin 4) (i : Fin 256) (e : Fin 64) :
    vM.view.readAt (Elt Ideal) (kvRect b h).toLoadRect f (ix4 0 i 0 e) = f (ix4 b i h e) := by
  refine congrArg f (funext fun a => Fin.ext ?_)
  match a with
  | ⟨0, _⟩ => show b.val + 1 * 0 = b.val; omega
  | ⟨1, _⟩ => show 0 + 1 * i.val = i.val; omega
  | ⟨2, _⟩ => show h.val + 1 * 0 = h.val; omega
  | ⟨3, _⟩ => show 0 + 1 * e.val = e.val; omega

theorem ctx_val (b : Fin 2) (h : Fin 4) (r : Fin 256) (e : Fin 64) :
    ∃ i : S2x256x384.Idx, (i 0).val = b.val ∧ (i 1).val = r.val ∧ (i 2).val = 64 * h.val + e.val
      ∧ ∀ f : AccBuf Ideal, accM.view.readAt (Elt Ideal) (ctxRect b h).toLoadRect f (ix3 0 r e) = f i :=
  ⟨(ctxRect b h).toLoadRect.idx (ix3 0 r e), by show b.val + 1 * 0 = b.val; omega, by show 0 + 1 * r.val = r.val; omega,
    by show 64 * h.val + 1 * e.val = _; omega, fun _ => rfl⟩

theorem col_val (b : Fin 2) (h : Fin 4) (r : Fin 256) :
    ∃ i : S2x256x384.Idx, (i 0).val = b.val ∧ (i 1).val = r.val ∧ (i 2).val = 256 + 32 * h.val + 0
      ∧ ∀ f : AccBuf Ideal, accM.view.readAt (Elt Ideal) (colRect b h).toLoadRect f (ix3 0 r 0) = f i :=
  ⟨(colRect b h).toLoadRect.idx (ix3 0 r 0), by show b.val + 1 * 0 = b.val; omega, by show 0 + 1 * r.val = r.val; omega,
    by show 256 + 32 * h.val + 1 * 0 = _; omega, fun _ => rfl⟩

section Mem

variable (m : (ℓ : Loc nD τ sig) → Buf (Elt Ideal) ℓ) (c : Dev nD)

/-- A place inside the one block of a whole window is itself. -/
theorem place (n k : ℕ) : 0 * k + 1 * n = n := by omega

theorem ins_x : (ins m c).x = m ((c : Thread nD τ).loc main_arg0) := by
  refine funext fun i => congrArg (m ((c : Thread nD τ).loc main_arg0)) (funext fun a => Fin.ext ?_)
  match a with
  | ⟨0, _⟩ => exact place (i 0).val _
  | ⟨1, _⟩ => exact place (i 1).val _
  | ⟨2, _⟩ => exact place (i 2).val _
theorem ins_wq : (ins m c).wq = m ((c : Thread nD τ).loc main_arg1) := by
  refine funext fun i => congrArg (m ((c : Thread nD τ).loc main_arg1)) (funext fun a => Fin.ext ?_)
  match a with
  | ⟨0, _⟩ => exact place (i 0).val _
  | ⟨1, _⟩ => exact place (i 1).val _
theorem ins_k : (ins m c).k = m ((c : Thread nD τ).loc main_arg2) := by
  refine funext fun i => congrArg (m ((c : Thread nD τ).loc main_arg2)) (funext fun a => Fin.ext ?_)
  match a with
  | ⟨0, _⟩ => exact place (i 0).val _
  | ⟨1, _⟩ => exact place (i 1).val _
  | ⟨2, _⟩ => exact place (i 2).val _
  | ⟨3, _⟩ => exact place (i 3).val _
theorem ins_v : (ins m c).v = m ((c : Thread nD τ).loc main_arg3) := by
  refine funext fun i => congrArg (m ((c : Thread nD τ).loc main_arg3)) (funext fun a => Fin.ext ?_)
  match a with
  | ⟨0, _⟩ => exact place (i 0).val _
  | ⟨1, _⟩ => exact place (i 1).val _
  | ⟨2, _⟩ => exact place (i 2).val _
  | ⟨3, _⟩ => exact place (i 3).val _
theorem ins_wo : (ins m c).wo = m ((c : Thread nD τ).loc main_arg4) := by
  refine funext fun i => congrArg (m ((c : Thread nD τ).loc main_arg4)) (funext fun a => Fin.ext ?_)
  match a with
  | ⟨0, _⟩ => exact place (i 0).val _
  | ⟨1, _⟩ => exact place (i 1).val _

end Mem

/-! ## One device -/

variable (I : Ins Ideal)

/-- A device's scaled scores. -/
def rawAt (b : Fin 2) (h : Fin 4) (r i : Fin 256) : EReal :=
  (∑ e : Fin 64, (∑ l : Fin 512, I.x (ix3 b r l) * I.wq (ix2 l ⟨64 * h.val + e.val, by omega⟩)) * I.k (ix4 b i h e))
    * Ideal.ofBits .f32 0x3E000000#32

/-- A device's weights. -/
def wAt (d : Dev nD) (b : Fin 2) (h : Fin 4) (r i : Fin 256) : EReal :=
  if 4 * d.val + i.val / 64 ≤ r.val / 64 then Ideal.exp (rawAt I b h r i) else 0

theorem w_at (d : Dev nD) (b : Fin 2) (h : Fin 4) (r i : Fin 256) :
    headW (mask d) (qAt I b) h (kM.view.readAt (Elt Ideal) (kvRect b h).toLoadRect I.k) (ix2 r i) = wAt I d b h r i := by
  rw [headW_at]
  have hr : (∑ e : Fin 64, qAt I b (ix2 r ⟨64 * h.val + e.val, by omega⟩)
        * kM.view.readAt (Elt Ideal) (kvRect b h).toLoadRect I.k (ix4 0 i 0 e)) * Ideal.ofBits .f32 0x3E000000#32 = rawAt I b h r i := by
    unfold rawAt
    congr 1
    refine Finset.sum_congr rfl fun e _ => ?_
    rw [k_read]
    congr 1
    unfold qAt
    rw [projQ_at]
    refine Finset.sum_congr rfl fun l _ => ?_
    rw [x_read, wq_read]
  rw [hr]
  unfold Scalar.select wAt
  exact if_congr (mask_at d r i) rfl rfl

theorem ctx_at (d : Dev nD) (b : Fin 2) (h : Fin 4) (r : Fin 256) (e : Fin 64) :
    ctxAt I d b h (ix3 0 r e) = ∑ i : Fin 256, wAt I d b h r i * I.v (ix4 b i h e) := by
  unfold ctxAt
  rw [headC_at]
  refine Finset.sum_congr rfl fun i _ => ?_
  rw [w_at, v_read]

theorem den_at (d : Dev nD) (b : Fin 2) (h : Fin 4) (r : Fin 256) (e : Fin 32) :
    denAt I d b h (ix3 0 r e) = ∑ i : Fin 256, wAt I d b h r i := by
  unfold denAt
  rw [headD_at]
  exact Finset.sum_congr rfl fun i _ => w_at I d b h r i

/-! ## All devices -/

/-- A device, its partners of both rounds, and the second partner's partner are the four devices. -/
theorem peers (c : Dev nD) :
    (c = 0 ∧ peer 0 c = 1 ∧ peer 1 c = 3 ∧ peer 0 (peer 1 c) = 2) ∨ (c = 1 ∧ peer 0 c = 0 ∧ peer 1 c = 2 ∧ peer 0 (peer 1 c) = 3)
      ∨ (c = 2 ∧ peer 0 c = 3 ∧ peer 1 c = 1 ∧ peer 0 (peer 1 c) = 0) ∨ (c = 3 ∧ peer 0 c = 2 ∧ peer 1 c = 0 ∧ peer 0 (peer 1 c) = 1) := by
  revert c; decide

/-- After both rounds every device holds the sum over the four devices. -/
theorem accS_sum (A : Dev nD → AccBuf Ideal) (c : Dev nD) (i : S2x256x384.Idx) : accS A 1 c i = ∑ d : Dev nD, A d i := by
  have e : ∑ d : Dev nD, A d i = A 0 i + A 1 i + A 2 i + A 3 i := Fin.sum_univ_four fun d : Fin 4 => A d i
  rw [e]
  show (A c i + A (peer 0 c) i) + (A (peer 1 c) i + A (peer 0 (peer 1 c)) i) = _
  rcases peers c with ⟨h0, h1, h2, h3⟩ | ⟨h0, h1, h2, h3⟩ | ⟨h0, h1, h2, h3⟩ | ⟨h0, h1, h2, h3⟩ <;>
    · rw [h3, h1, h2, h0]; ac_rfl

/-- The result of device `c` at an index. -/
theorem out_at (m : (ℓ : Loc nD τ sig) → Buf (Elt Ideal) ℓ) (c : Dev nD) (b : Fin 2) (r : Fin 256) (o : Fin 512) :
    out m c (ix3 b r o)
      = ∑ j : Fin 256,
          Ideal.div
            (∑ d : Dev nD, ∑ i : Fin 256, wAt (ins m d) d b (⟨j.val / 64, by omega⟩ : Fin 4) r i
              * (ins m d).v (ix4 b i (⟨j.val / 64, by omega⟩ : Fin 4) (⟨j.val % 64, by omega⟩ : Fin 64)))
            (∑ d : Dev nD, ∑ i : Fin 256, wAt (ins m d) d b (⟨j.val / 64, by omega⟩ : Fin 4) r i) * (ins m c).wo (ix2 j o) := by
  show outAt (ins m c) (accS (acc0 m) 1 c) b (ix3 0 r o) = _
  unfold outAt
  rw [outV_at (fun h => accM.view.readAt (Elt Ideal) (ctxRect b h).toLoadRect (accS (acc0 m) 1 c))
    (fun h => accM.view.readAt (Elt Ideal) (colRect b h).toLoadRect (accS (acc0 m) 1 c))]
  refine Finset.sum_congr rfl fun j _ => ?_
  generalize (⟨j.val / 64, _⟩ : Fin 4) = h
  generalize (⟨j.val % 64, _⟩ : Fin 64) = e
  rw [wo_read]
  congr 1
  obtain ⟨i, i0, i1, i2, hi⟩ := ctx_val b h r e
  obtain ⟨t, t0, t1, t2, ht⟩ := col_val b h r
  rw [hi, ht, accS_sum, accS_sum]
  congr 1
  · exact Finset.sum_congr rfl fun d _ => (tiles_ctx (ins m d) d b h r e i i0 i1 i2).trans (ctx_at (ins m d) d b h r e)
  · exact Finset.sum_congr rfl fun d _ => (tiles_den (ins m d) d b h r 0 t t0 t1 t2).trans (den_at (ins m d) d b h r 0)

end Cert.KernelIdeal.Run

end
-- ==== Proof.Value.Reference.lean ====
/-
The reference's result, piece by piece: which keys a query may see, the masked scores, their softmax, the mixture of the
values, and the output projection.
-/
module

public import proofs.«01_k».proof.Proof.Gen.ReferenceIdeal.Run
public import proofs.«01_k».proof.Proof.Value.Softmax
public import Idealize.ShloMosaic.Lib.Pointwise
public import Idealize.ShloMosaic.Lib.Routing.OpsOrder

@[expose] public section

set_option maxRecDepth 16384

noncomputable section

namespace Cert.ReferenceIdeal.Parts

open Cert.ReferenceIdeal Cert.ReferenceIdeal.Gen Idealize.ShloMosaic Idealize.ShloMosaic.TcCoe Idealize.SL.Sem

/-- The block each key lies in. -/
def keyBlk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The block each query lies in. -/
def queryBlk : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- Which keys a query may see. -/
def seen : IVec S256x1024 1 :=
  cmpi .sle (broadcastInDim S256x1024 ![0, 1] bcast_S1x1024_S256x1024_0_1 (broadcastInDim S1x1024 ![1] bcast_S1024_S1x1024_1 keyBlk))
    (broadcastInDim S256x1024 ![0, 1] bcast_S256x1_S256x1024_0_1 (broadcastInDim S256x1 ![0] bcast_S256_S256x1_0 queryBlk))

/-- Which queries see a key at all. -/
def anySeen : IVec S256 1 := Host.reduce IntOp.ori seen (constantI S_ 1 0#1) reducesTo_S256x1024_S256_d1 h_S_

variable (x : FVec Ideal S2x256x512 .f32) (wq : FVec Ideal S512x256 .f32) (k v : FVec Ideal S2x1024x4x64 .f32) (wo : FVec Ideal S256x512 .f32)

/-- The scaled scores, before the mask. -/
def raw : FVec Ideal S2x4x256x1024 .f32 :=
  mulf (Host.dotGeneral dot_S2x256x4x64_S2x1024x4x64_S2x4x256x1024_3_3_1_1_02_02 none
      (shapeCast S2x256x4x64 (Host.dotGeneral dot_S2x256x512_S512x256_S2x256x256_2_0_01_1_n_n none x wq) shapeCasts_S2x256x256_S2x256x4x64) k)
    (broadcastInDim S2x4x256x1024 ![] bcast_S_S2x4x256x1024 (constant S_ .f32 0x3E000000#32))

/-- The scores, minus infinity where a key is not seen. -/
def scores (r : FVec Ideal S2x4x256x1024 .f32) : FVec Ideal S2x4x256x1024 .f32 :=
  select (broadcastInDim S2x4x256x1024 ![0, 1, 2, 3] bcast_S1x1x256x1024_S2x4x256x1024_0_1_2_3
      (broadcastInDim S1x1x256x1024 ![2, 3] bcast_S256x1024_S1x1x256x1024_2_3 seen)) r
    (broadcastInDim S2x4x256x1024 ![] bcast_S_S2x4x256x1024 (id (constant S_ .f32 0xFF800000#32)))

/-- The largest score of each query. -/
def top (s : FVec Ideal S2x4x256x1024 .f32) : FVec Ideal S2x4x256 .f32 :=
  Host.reduce FloatOps.maximumf s (constant S_ .f32 0xFF800000#32) reducesTo_S2x4x256x1024_S2x4x256_d3 h_S_

/-- The exponentials of the scores below their largest. -/
def exps (s : FVec Ideal S2x4x256x1024 .f32) (t : FVec Ideal S2x4x256 .f32) : FVec Ideal S2x4x256x1024 .f32 :=
  Host.exp (subf s (broadcastInDim S2x4x256x1024 ![0, 1, 2, 3] bcast_S2x4x256x1_S2x4x256x1024_0_1_2_3
    (broadcastInDim S2x4x256x1 ![0, 1, 2] bcast_S2x4x256_S2x4x256x1_0_1_2 t)))

/-- The softmax over the keys, zero for a query that sees none. -/
def soft (keep : IVec S256 1) (e : FVec Ideal S2x4x256x1024 .f32) : FVec Ideal S2x4x256x1024 .f32 :=
  select (broadcastInDim S2x4x256x1024 ![0, 1, 2, 3] bcast_S1x1x256x1_S2x4x256x1024_0_1_2_3
      (broadcastInDim S1x1x256x1 ![2] bcast_S256_S1x1x256x1_2 keep))
    (Host.divf e (broadcastInDim S2x4x256x1024 ![0, 1, 2, 3] bcast_S2x4x256x1_S2x4x256x1024_0_1_2_3
      (select (broadcastInDim S2x4x256x1 ![0, 1, 2, 3] bcast_S1x1x256x1_S2x4x256x1_0_1_2_3
          (broadcastInDim S1x1x256x1 ![2] bcast_S256_S1x1x256x1_2 keep))
        (broadcastInDim S2x4x256x1 ![0, 1, 2] bcast_S2x4x256_S2x4x256x1_0_1_2
          (Host.reduceAdd e (constant S_ .f32 0x00000000#32) reducesTo_S2x4x256x1024_S2x4x256_d3 h_S_))
        (broadcastInDim S2x4x256x1 ![] bcast_S_S2x4x256x1 (id (constant S_ .f32 0x3F800000#32))))))
    (broadcastInDim S2x4x256x1024 ![] bcast_S_S2x4x256x1024 (id (constant S_ .f32 0x00000000#32)))

/-- The values mixed by weights `p`. -/
def mixed (p : FVec Ideal S2x4x256x1024 .f32) : FVec Ideal S2x4x64x256 .f32 :=
  Host.dotGeneral dot_S2x1024x4x64_S2x4x256x1024_S2x4x64x256_1_3_3_2_02_01 none v p

/-- The heads side by side, times the output matrix. -/
def proj (y : FVec Ideal S2x4x64x256 .f32) : FVec Ideal S2x256x512 .f32 :=
  Host.dotGeneral dot_S2x256x256_S256x512_S2x256x512_2_0_01_1_n_n none
    (shapeCast S2x256x256 (transpose S2x256x4x64 [0, 3, 1, 2] y transposes_S2x4x64x256_S2x256x4x64_0_3_1_2) shapeCasts_S2x256x4x64_S2x256x256) wo

/-- The whole reference. -/
def whole : FVec Ideal S2x256x512 .f32 :=
  proj wo (mixed v (soft anySeen (exps (scores (raw x wq k)) (top (scores (raw x wq k))))))

/-- The reference's run ends at these pieces put together. -/
theorem result_eq (m : (ℓ : Loc nD τ sig) → Buf (Elt Ideal) ℓ) (c : Dev nD) :
    Cert.ReferenceIdeal.Value.res_out0 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_out0 Cert.ReferenceIdeal.Value.res_main_v33
  rfl

/-! ## At an index -/

theorem keyBlk_at (i : Fin 1024) : keyBlk (ix1 i) = BitVec.ofNat 32 (i.val / 64) := by
  pointwise [keyBlk]
  revert i
  decide +kernel

theorem queryBlk_at (i : Fin 256) : queryBlk (ix1 i) = BitVec.ofNat 32 (i.val / 64) := by
  pointwise [queryBlk]
  revert i
  decide +kernel

theorem blk_le : ∀ (i : Fin 16) (j : Fin 4), (IntOp.cmpi .sle (BitVec.ofNat 32 i.val) (BitVec.ofNat 32 j.val) = 1#1) ↔ i.val ≤ j.val := by
  decide +kernel

theorem seen_at (r : Fin 256) (i : Fin 1024) : seen (ix2 r i) = 1#1 ↔ i.val / 64 ≤ r.val / 64 := by
  pointwise [seen]
  rw [keyBlk_at, queryBlk_at]
  exact blk_le (⟨i.val / 64, by omega⟩ : Fin 16) (⟨r.val / 64, by omega⟩ : Fin 4)

theorem anySeen_at (r : Fin 256) : anySeen (ix1 r) = 1#1 := by
  pointwise [anySeen]
  rw [Routing.fold_ori]
  exact ⟨(0 : Fin 1024), Finset.mem_univ _, (seen_at r 0).mpr (by simp)⟩

theorem minus_inf : Ideal.ofBits .f32 0xFF800000#32 = ⊥ := by
  simp [Ideal.ofBits, Ideal.ieee]

theorem eighth : Ideal.ofBits .f32 0x3E000000#32 = ((1 / 8 : ℝ) : EReal) := by
  simp [Ideal.ofBits, Ideal.ieee, -EReal.coe_mul]; norm_num

theorem raw_at (b : Fin 2) (h : Fin 4) (r : Fin 256) (i : Fin 1024) :
    raw x wq k (ix4 b h r i)
      = (∑ e : Fin 64, (∑ l : Fin 512, x (ix3 b r l) * wq (ix2 l ⟨h.val * 64 + e.val, by omega⟩)) * k (ix4 b i h e))
          * Ideal.ofBits .f32 0x3E000000#32 := by
  pointwise [raw]

theorem scores_at (s : FVec Ideal S2x4x256x1024 .f32) (b : Fin 2) (h : Fin 4) (r : Fin 256) (i : Fin 1024) :
    scores s (ix4 b h r i) = if i.val / 64 ≤ r.val / 64 then s (ix4 b h r i) else ⊥ := by
  pointwise [scores]
  have hb : id (constant (F := Ideal) S_ FTy.f32 4286578688#32) ix0 = ⊥ := minus_inf
  rw [hb]
  unfold Scalar.select
  exact if_congr (seen_at r i) rfl rfl

theorem top_at (s : FVec Ideal S2x4x256x1024 .f32) (b : Fin 2) (h : Fin 4) (r : Fin 256) :
    top s (ix3 b h r) = Finset.univ.fold max ⊥ fun i : Fin 1024 => s (ix4 b h r i) := by
  pointwise [top]
  rw [minus_inf]

theorem exps_at (s : FVec Ideal S2x4x256x1024 .f32) (t : FVec Ideal S2x4x256 .f32) (b : Fin 2) (h : Fin 4) (r : Fin 256)
    (i : Fin 1024) : exps s t (ix4 b h r i) = Ideal.exp (s (ix4 b h r i) - t (ix3 b h r)) := by
  pointwise [exps]

theorem soft_at (t : FVec Ideal S2x4x256x1024 .f32) (b : Fin 2) (h : Fin 4) (r : Fin 256) (i : Fin 1024) :
    soft anySeen t (ix4 b h r i) = Ideal.div (t (ix4 b h r i)) (∑ i' : Fin 1024, t (ix4 b h r i')) := by
  pointwise [soft]
  rw [anySeen_at]
  rfl

theorem mixed_at (p : FVec Ideal S2x4x256x1024 .f32) (b : Fin 2) (h : Fin 4) (r : Fin 256) (e : Fin 64) :
    mixed v p (ix4 b h e r) = ∑ i : Fin 1024, v (ix4 b i h e) * p (ix4 b h r i) := by
  pointwise [mixed]

theorem proj_at (y : FVec Ideal S2x4x64x256 .f32) (b : Fin 2) (r : Fin 256) (o : Fin 512) :
    proj wo y (ix3 b r o)
      = ∑ j : Fin 256, y (ix4 b (⟨j.val / 64, by omega⟩ : Fin 4) (⟨j.val % 64, by omega⟩ : Fin 64) r) * wo (ix2 j o) := by
  pointwise [proj]

/-- Which keys a query of row `r` sees. -/
abbrev Sees (r : Fin 256) (i : Fin 1024) : Prop := i.val / 64 ≤ r.val / 64

/-- With real scores `s`, the reference is one division per head and query, then the output projection. -/
theorem whole_at (s : Fin 2 → Fin 4 → Fin 256 → Fin 1024 → ℝ) (hs : ∀ b h r i, raw x wq k (ix4 b h r i) = (s b h r i : EReal))
    (b : Fin 2) (r : Fin 256) (o : Fin 512) :
    whole x wq k v wo (ix3 b r o)
      = ∑ j : Fin 256,
          Ideal.div
            (∑ i : Fin 1024, Attn.weight (Sees r) (s b (⟨j.val / 64, by omega⟩ : Fin 4) r) i
              * v (ix4 b i (⟨j.val / 64, by omega⟩ : Fin 4) (⟨j.val % 64, by omega⟩ : Fin 64)))
            (∑ i : Fin 1024, Attn.weight (Sees r) (s b (⟨j.val / 64, by omega⟩ : Fin 4) r) i) * wo (ix2 j o) := by
  unfold whole
  rw [proj_at]
  refine Finset.sum_congr rfl fun j _ => ?_
  generalize (⟨j.val / 64, _⟩ : Fin 4) = h
  generalize (⟨j.val % 64, _⟩ : Fin 64) = e
  have hm : (fun i : Fin 1024 => scores (raw x wq k) (ix4 b h r i)) = Attn.masked (Sees r) (s b h r) :=
    funext fun i => (scores_at _ b h r i).trans (by rw [hs]; rfl)
  congr 1
  rw [mixed_at, Attn.mix_eq_softmax (Sees r) (s b h r) ⟨0, by simp⟩]
  refine Finset.sum_congr rfl fun i _ => ?_
  have he : ∀ i, exps (scores (raw x wq k)) (top (scores (raw x wq k))) (ix4 b h r i)
      = Ideal.exp (Attn.masked (Sees r) (s b h r) i - Finset.univ.fold max ⊥ (Attn.masked (Sees r) (s b h r))) := fun i => by
    rw [exps_at, top_at, hm, ← hm]
  rw [soft_at]
  simp only [he]

end Cert.ReferenceIdeal.Parts

end
-- ==== Proof.Value.Equal.lean ====
/-
The kernel's result is the reference's: the scores are real because the inputs behind them are, and the keys of the four
devices together are all the keys.
-/
module

public import proofs.«01_k».proof.Proof.Value.Kernel
public import proofs.«01_k».proof.Proof.Value.Reference
public import proofs.«01_k».proof.Pre_finite_scores_KernelIdeal
public import Idealize.ShloMosaic.Lib.ReduceAll
public import Idealize.ShloMosaic.Lib.Layout

@[expose] public section

set_option maxRecDepth 16384

noncomputable section

namespace Cert.Attn

open Idealize.ShloMosaic
open Idealize.ShloMosaic.TcCoe

/-! ## Finite inputs -/

theorem plus_inf : Ideal.ofBits .f32 0x7F800000#32 = ⊤ := by
  simp [Ideal.ofBits, Ideal.ieee]

/-- A value whose magnitude is below infinity is a real. -/
theorem real_of_lt (x : EReal)
    (h : FloatOps.cmpf (F := Ideal) (φ := .f32) .olt (FloatOps.absf (F := Ideal) (φ := .f32) x) (Ideal.ofBits .f32 0x7F800000#32) = 1#1) :
    ∃ a : ℝ, x = (a : EReal) := by
  rw [plus_inf, Ideal.cmpf_def, Ideal.absf_def] at h
  induction x using EReal.rec with
  | bot => exact absurd h (by simp [Ideal.cmp])
  | coe a => exact ⟨a, rfl⟩
  | top => exact absurd h (by simp [Ideal.cmp])

section Pre

variable [Cert.Pre_finite_scores_KernelIdeal.Facts]
open Cert.Pre_finite_scores_KernelIdeal

theorem finite_of_pre (x : FVec Ideal S2x256x512 .f32) (wq : FVec Ideal S512x256 .f32) (k v : FVec Ideal S2x256x4x64 .f32)
    (wo : FVec Ideal S256x512 .f32) (h : fn (F := Ideal) x wq k v wo = fun _ => 1#1) :
    (∀ i, ∃ a : ℝ, x i = (a : EReal)) ∧ (∀ i, ∃ a : ℝ, wq i = (a : EReal)) ∧ (∀ i, ∃ a : ℝ, k i = (a : EReal)) := by
  have e := congrFun h ix0
  unfold fn at e
  haveI : Subsingleton S_.Idx := ⟨fun a b => funext fun i => i.elim0⟩
  obtain ⟨e1, e3⟩ := IntOp.andi_eq_one.1 e
  obtain ⟨e1, e2⟩ := IntOp.andi_eq_one.1 e1
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

end Pre

/-! ## All the keys -/

/-- A sum over all keys, device by device. -/
theorem sum_keys (g : Fin 1024 → EReal) :
    ∑ i : Fin 1024, g i = ∑ d : Fin 4, ∑ i : Fin 256, g (⟨256 * d.val + i.val, by omega⟩ : Fin 1024) := by
  rw [← Fintype.sum_prod_type' (f := fun (d : Fin 4) (i : Fin 256) => g (⟨256 * d.val + i.val, by omega⟩ : Fin 1024))]
  refine (Fintype.sum_equiv (finProdFinEquiv (m := 4) (n := 256)) _ _ fun p => congrArg g (Fin.ext ?_)).symm
  show 256 * p.1.val + p.2.val = p.2.val + 256 * p.1.val
  omega

/-- Where device `d`'s key `i` is among all keys. -/
theorem block_at (f : (⟨4, ![2, 1024, 4, 64]⟩ : Shape).Idx → EReal) (d : Fin 4) (b : Fin 2) (i : Fin 256) (h : Fin 4) (e : Fin 64) :
    Layout.block ⟨4, ![2, 256, 4, 64]⟩ ⟨4, ![2, 1024, 4, 64]⟩ 1 4 d f (by decide) (ix4 b i h e)
      = f (ix4 b (⟨256 * d.val + i.val, by omega⟩ : Fin 1024) h e) := by
  refine congrArg f (funext fun a => Fin.ext ?_)
  match a with
  | ⟨0, _⟩ => rfl
  | ⟨1, _⟩ => show d.val * 256 + i.val = 256 * d.val + i.val; omega
  | ⟨2, _⟩ => rfl
  | ⟨3, _⟩ => rfl

/-- Every key's element is some device's. -/
theorem real_of_blocks (f : (⟨4, ![2, 1024, 4, 64]⟩ : Shape).Idx → EReal)
    (hf : ∀ (d : Fin 4) i, ∃ a : ℝ, Layout.block ⟨4, ![2, 256, 4, 64]⟩ ⟨4, ![2, 1024, 4, 64]⟩ 1 4 d f (by decide) i = (a : EReal))
    (b : Fin 2) (i : Fin 1024) (h : Fin 4) (e : Fin 64) : ∃ a : ℝ, f (ix4 b i h e) = (a : EReal) := by
  obtain ⟨a, ha⟩ := hf (⟨i.val / 256, by omega⟩ : Fin 4) (ix4 b (⟨i.val % 256, by omega⟩ : Fin 256) h e)
  rw [block_at] at ha
  refine ⟨a, Eq.trans (congrArg (fun j => f (ix4 b j h e)) (Fin.ext ?_)) ha⟩
  show i.val = 256 * (i.val / 256) + i.val % 256
  omega

/-! ## The two results -/

open Cert.ReferenceIdeal.Parts (Sees raw raw_at whole whole_at eighth)

/-- Finite inputs make real scores. -/
theorem raw_real (x : FVec Ideal Cert.ReferenceIdeal.S2x256x512 .f32) (wq : FVec Ideal Cert.ReferenceIdeal.S512x256 .f32)
    (k : FVec Ideal Cert.ReferenceIdeal.S2x1024x4x64 .f32)
    (hx : ∀ i, ∃ a : ℝ, x i = (a : EReal)) (hq : ∀ i, ∃ a : ℝ, wq i = (a : EReal))
    (hk : ∀ (b : Fin 2) (i : Fin 1024) (h : Fin 4) (e : Fin 64), ∃ a : ℝ, k (ix4 b i h e) = (a : EReal)) :
    ∃ s : Fin 2 → Fin 4 → Fin 256 → Fin 1024 → ℝ, ∀ b h r i, raw x wq k (ix4 b h r i) = (s b h r i : EReal) := by
  choose x' hx using hx
  choose q' hq using hq
  choose k' hk using hk
  refine ⟨fun b h r i => (∑ e : Fin 64, (∑ l : Fin 512, x' (ix3 b r l) * q' (ix2 l ⟨h.val * 64 + e.val, by omega⟩)) * k' b i h e) * (1 / 8),
    fun b h r i => ?_⟩
  rw [raw_at, eighth]
  simp only [hx, hq, hk, ← EReal.coe_mul, sum_real]

open Cert.KernelIdeal Cert.KernelIdeal.Gen Cert.KernelIdeal.Run in
/-- Where each device holds its part of the reference's inputs, and those behind the scores are finite, the kernel's
    result on every device is the reference's. -/
theorem out_eq_whole (m : (ℓ : Loc nD τ sig) → Buf (Elt Ideal) ℓ) (c : Dev nD)
    (x : FVec Ideal Cert.ReferenceIdeal.S2x256x512 .f32) (wq : FVec Ideal Cert.ReferenceIdeal.S512x256 .f32)
    (k v : FVec Ideal Cert.ReferenceIdeal.S2x1024x4x64 .f32) (wo : FVec Ideal Cert.ReferenceIdeal.S256x512 .f32)
    (ax : ∀ d : Dev nD, m ((d : Thread nD τ).loc main_arg0) = x) (aq : ∀ d : Dev nD, m ((d : Thread nD τ).loc main_arg1) = wq)
    (ak : ∀ d : Dev nD, m ((d : Thread nD τ).loc main_arg2) = Layout.block ⟨4, ![2, 256, 4, 64]⟩ ⟨4, ![2, 1024, 4, 64]⟩ 1 4 d k)
    (av : ∀ d : Dev nD, m ((d : Thread nD τ).loc main_arg3) = Layout.block ⟨4, ![2, 256, 4, 64]⟩ ⟨4, ![2, 1024, 4, 64]⟩ 1 4 d v)
    (ao : ∀ d : Dev nD, m ((d : Thread nD τ).loc main_arg4) = wo)
    (hx : ∀ i, ∃ a : ℝ, x i = (a : EReal)) (hq : ∀ i, ∃ a : ℝ, wq i = (a : EReal))
    (hk : ∀ (d : Fin 4) i, ∃ a : ℝ, Layout.block ⟨4, ![2, 256, 4, 64]⟩ ⟨4, ![2, 1024, 4, 64]⟩ 1 4 d k (by decide) i = (a : EReal)) :
    out m c = whole x wq k v wo := by
  obtain ⟨s, hs⟩ := raw_real x wq k hx hq (real_of_blocks k hk)
  have hw : ∀ (d : Dev nD) (b : Fin 2) (h : Fin 4) (r i : Fin 256),
      wAt (ins m d) d b h r i = weight (Sees r) (s b h r) (⟨256 * d.val + i.val, by have : d.val < 4 := d.isLt; omega⟩ : Fin 1024) := by
    intro d b h r i
    have hd : d.val < 4 := d.isLt
    have hraw : rawAt (ins m d) b h r i = (s b h r (⟨256 * d.val + i.val, by omega⟩ : Fin 1024) : EReal) := by
      rw [← hs, raw_at]
      unfold rawAt
      congr 1
      refine Finset.sum_congr rfl fun e _ => ?_
      rw [ins_k, ak, block_at, ins_x, ax, ins_wq, aq]
      congr 1
      refine Finset.sum_congr rfl fun l _ => ?_
      congr 3
      exact Fin.ext (by show 64 * h.val + e.val = h.val * 64 + e.val; omega)
    unfold wAt weight
    rw [hraw]
    refine if_congr ?_ rfl rfl
    show _ ↔ (256 * d.val + i.val) / 64 ≤ r.val / 64
    omega
  funext j
  obtain ⟨b, r, o, rfl⟩ : ∃ (b : Fin 2) (r : Fin 256) (o : Fin 512), j = ix3 b r o := ⟨j 0, j 1, j 2, eq_ix3 j⟩
  rw [out_at, whole_at x wq k v wo s hs]
  refine Finset.sum_congr rfl fun j _ => ?_
  rw [ins_wo, ao, sum_keys, sum_keys]
  refine congrArg₂ (fun a b => Ideal.div a b * wo (ix2 j o)) (Finset.sum_congr rfl fun d _ => Finset.sum_congr rfl fun i _ => ?_)
    (Finset.sum_congr rfl fun d _ => Finset.sum_congr rfl fun i _ => ?_)
  · rw [hw, ins_v, av, block_at]
  · rw [hw]

end Cert.Attn

end
-- ==== Proof.Algebraic.lean ====
/-
The kernel and the reference agree over the extended reals: each device's result array ends at the reference's.
-/
module

public import proofs.«01_k».proof.Proof.RunKernelIdeal.Launch
public import proofs.«01_k».proof.Proof.Value.Equal
public import proofs.«01_k».proof.Defs

@[expose] public section

noncomputable section

namespace Cert.Proof

open Idealize.ShloMosaic
open Idealize.ShloMosaic.TcCoe
open Idealize.SL.Sem

/-- The side conditions that the precondition's own operations state, for one device's shapes and for the whole arrays'. -/
theorem pre_facts_block : Cert.Pre_finite_scores_KernelIdeal.Facts := by constructor <;> decide
theorem pre_facts_whole : Cert.Pre_finite_scores_ReferenceIdeal.Facts := by constructor <;> decide

/-- With finite `x`, `Wq` and keys, every device ends with the reference's result. -/
theorem algebraic : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := pre_facts_block) := by
  letI := pre_facts_block
  intro m g m' g' hpre hagree
  have fin := fun d => Cert.Attn.finite_of_pre _ _ _ _ _ (hpre d)
  have key := fun c => (Cert.Attn.out_eq_whole m c _ _ _ _ _ (fun d => (hagree d).1) (fun d => (hagree d).2.1) (fun d => (hagree d).2.2.1)
    (fun d => (hagree d).2.2.2.1) (fun d => (hagree d).2.2.2.2)
    (fun i => by rw [← (hagree 0).1]; exact (fin 0).1 i) (fun i => by rw [← (hagree 0).2.1]; exact (fin 0).2.1 i)
    (fun d i => by rw [← (hagree d).2.2.1]; exact (fin d).2.2 i)).trans (Cert.ReferenceIdeal.Parts.result_eq m' 0).symm
  exact ⟨Cert.ReferenceIdeal.Value.res_out0 m' 0,
    (θ_run _ _ _).mono (fun r h c => ⟨(h.1 c).1.trans (key c), (h.1 c).2⟩) (Cert.KernelIdeal.Run.run_value m g),
    (θ_run _ _ _).mono (fun r h => h 0) (Cert.ReferenceIdeal.Value.run m' g')⟩

end Cert.Proof

end
-- ==== Proof.lean ====
/- The certificate's claims, assembled. -/
module

public import proofs.«01_k».proof.Proof.Frames
public import proofs.«01_k».proof.Proof.Algebraic

@[expose] public section

noncomputable section

namespace Cert.Proof

/-- Every claim: the runs, also under the precondition, the idealization, and the agreement with the reference. -/
theorem claim : Cert.Claim := ⟨Cert.Kernel.Gen.facts, Cert.KernelIdeal.Gen.facts, Cert.ReferenceIdeal.Gen.facts,
  pre_facts_block, pre_facts_whole,
  frame_kernel, frame_kernelIdeal, fun m g _ => frame_kernelIdeal m g trivial,
  frame_reference, fun m g _ => frame_reference m g trivial, trivial, algebraic⟩

end Cert.Proof

end
